-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_scores [hPre_finite_scores : Cert.Pre_finite_scores.Facts] (m : (ℓ : Loc Cert.MobaIdeal.nD Cert.MobaIdeal.τ Cert.MobaIdeal.sig) → Buf (Elt Ideal) ℓ) : Prop :=
  ∀ c : Dev Cert.MobaIdeal.nD,
    (Cert.Pre_finite_scores.fn (F := Ideal) (m ((c.tc : Thread Cert.MobaIdeal.nD Cert.MobaIdeal.τ).loc Cert.MobaIdeal.main_arg0))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_scores [hPre_finite_scores : Cert.Pre_finite_scores.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_scores.fn (F := Ideal) (m ((c.tc : Thread Cert.MobaRefIdeal.nD Cert.MobaRefIdeal.τ).loc Cert.MobaRefIdeal.main_arg0))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryRefIdeal (m : (ℓ : Loc Cert.PeerQueryRefIdeal.nD Cert.PeerQueryRefIdeal.τ Cert.PeerQueryRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_LastNorm (m : (ℓ : Loc Cert.LastNorm.nD Cert.LastNorm.τ Cert.LastNorm.sig) → Buf (Elt Bits) ℓ) : Prop :=
  True

def Pre_LastNormIdeal (m : (ℓ : Loc Cert.LastNormIdeal.nD Cert.LastNormIdeal.τ Cert.LastNormIdeal.sig) → Buf (Elt Ideal) ℓ) : Prop :=
  True

def Pre_LastNormRefIdeal (m : (ℓ : Loc Cert.LastNormRefIdeal.nD Cert.LastNormRefIdeal.τ Cert.LastNormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_PeerMix (m : (ℓ : Loc Cert.PeerMix.nD Cert.PeerMix.τ Cert.PeerMix.sig) → Buf (Elt Bits) ℓ) : Prop :=
  True

def Pre_PeerMixIdeal (m : (ℓ : Loc Cert.PeerMixIdeal.nD Cert.PeerMixIdeal.τ Cert.PeerMixIdeal.sig) → Buf (Elt Ideal) ℓ) : Prop :=
  True

def Pre_PeerMixRefIdeal (m : (ℓ : Loc Cert.PeerMixRefIdeal.nD Cert.PeerMixRefIdeal.τ Cert.PeerMixRefIdeal.sig) → Buf (Elt Ideal) ℓ) : Prop :=
  True

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaIdeal_pre_finite_scores [hMobaIdeal : Cert.MobaIdeal.Facts] [hPre_finite_scores : Cert.Pre_finite_scores.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_scores m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_MobaRefIdeal_pre_finite_scores [hMobaRefIdeal : Cert.MobaRefIdeal.Facts] [hPre_finite_scores : Cert.Pre_finite_scores.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_scores m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_LastNorm [hLastNorm : Cert.LastNorm.Facts] : Prop :=
  ∀ (m : (ℓ : Loc Cert.LastNorm.nD Cert.LastNorm.τ Cert.LastNorm.sig) → Buf (Elt Bits) ℓ) (g : Dev Cert.LastNorm.nD → PrngReg), Pre_LastNorm m →
    θ_run (Cert.LastNorm.defs (F := Bits)) (onTc (τ := Cert.LastNorm.τ) (Cert.LastNorm.main (F := Bits))) ⟨m, fun _ => 0, g⟩ (fun r => (∀ c : Dev Cert.LastNorm.nD,
      r.2.mem ((c.tc : Thread Cert.LastNorm.nD Cert.LastNorm.τ).loc Cert.LastNorm.main_arg0) = m ((c.tc : Thread Cert.LastNorm.nD Cert.LastNorm.τ).loc Cert.LastNorm.main_arg0)
      ∧ r.2.mem ((c.tc : Thread Cert.LastNorm.nD Cert.LastNorm.τ).loc Cert.LastNorm.main_arg1) = m ((c.tc : Thread Cert.LastNorm.nD Cert.LastNorm.τ).loc Cert.LastNorm.main_arg1)
      ∧ r.2.mem ((c.tc : Thread Cert.LastNorm.nD Cert.LastNorm.τ).loc Cert.LastNorm.main_arg2) = m ((c.tc : Thread Cert.LastNorm.nD Cert.LastNorm.τ).loc Cert.LastNorm.main_arg2))
      ∧ r.2.sem = fun _ => 0)

def quiescent_LastNormIdeal [hLastNormIdeal : Cert.LastNormIdeal.Facts] : Prop :=
  ∀ (m : (ℓ : Loc Cert.LastNormIdeal.nD Cert.LastNormIdeal.τ Cert.LastNormIdeal.sig) → Buf (Elt Ideal) ℓ) (g : Dev Cert.LastNormIdeal.nD → PrngReg), Pre_LastNormIdeal m →
    θ_run (Cert.LastNormIdeal.defs (F := Ideal)) (onTc (τ := Cert.LastNormIdeal.τ) (Cert.LastNormIdeal.main (F := Ideal))) ⟨m, fun _ => 0, g⟩ (fun r => (∀ c : Dev Cert.LastNormIdeal.nD,
      r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
      ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
      ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2))
      ∧ r.2.sem = fun _ => 0)

def quiescent_LastNormRefIdeal [hLastNormRefIdeal : Cert.LastNormRefIdeal.Facts] : Prop :=
  ∀ (m : (ℓ : Loc Cert.LastNormRefIdeal.nD Cert.LastNormRefIdeal.τ Cert.LastNormRefIdeal.sig) → Buf (Elt Ideal) ℓ) (g : Dev Cert.LastNormRefIdeal.nD → PrngReg), Pre_LastNormRefIdeal m →
    θ_run (Cert.LastNormRefIdeal.defs (F := Ideal)) (onTc (τ := Cert.LastNormRefIdeal.τ) (Cert.LastNormRefIdeal.main (F := Ideal))) ⟨m, fun _ => 0, g⟩ (fun r => (∀ c : Dev Cert.LastNormRefIdeal.nD,
      r.2.mem ((c.tc : Thread Cert.LastNormRefIdeal.nD Cert.LastNormRefIdeal.τ).loc Cert.LastNormRefIdeal.main_arg0) = m ((c.tc : Thread Cert.LastNormRefIdeal.nD Cert.LastNormRefIdeal.τ).loc Cert.LastNormRefIdeal.main_arg0)
      ∧ r.2.mem ((c.tc : Thread Cert.LastNormRefIdeal.nD Cert.LastNormRefIdeal.τ).loc Cert.LastNormRefIdeal.main_arg1) = m ((c.tc : Thread Cert.LastNormRefIdeal.nD Cert.LastNormRefIdeal.τ).loc Cert.LastNormRefIdeal.main_arg1)
      ∧ r.2.mem ((c.tc : Thread Cert.LastNormRefIdeal.nD Cert.LastNormRefIdeal.τ).loc Cert.LastNormRefIdeal.main_arg2) = m ((c.tc : Thread Cert.LastNormRefIdeal.nD Cert.LastNormRefIdeal.τ).loc Cert.LastNormRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_PeerMix [hPeerMix : Cert.PeerMix.Facts] : Prop :=
  ∀ (m : (ℓ : Loc Cert.PeerMix.nD Cert.PeerMix.τ Cert.PeerMix.sig) → Buf (Elt Bits) ℓ) (g : Dev Cert.PeerMix.nD → PrngReg), Pre_PeerMix m →
    θ_run (Cert.PeerMix.defs (F := Bits)) (onTc (τ := Cert.PeerMix.τ) (Cert.PeerMix.main (F := Bits))) ⟨m, fun _ => 0, g⟩ (fun r => (∀ c : Dev Cert.PeerMix.nD,
      r.2.mem ((c.tc : Thread Cert.PeerMix.nD Cert.PeerMix.τ).loc Cert.PeerMix.main_arg0) = m ((c.tc : Thread Cert.PeerMix.nD Cert.PeerMix.τ).loc Cert.PeerMix.main_arg0)
      ∧ r.2.mem ((c.tc : Thread Cert.PeerMix.nD Cert.PeerMix.τ).loc Cert.PeerMix.main_arg1) = m ((c.tc : Thread Cert.PeerMix.nD Cert.PeerMix.τ).loc Cert.PeerMix.main_arg1)
      ∧ r.2.mem ((c.tc : Thread Cert.PeerMix.nD Cert.PeerMix.τ).loc Cert.PeerMix.main_arg2) = m ((c.tc : Thread Cert.PeerMix.nD Cert.PeerMix.τ).loc Cert.PeerMix.main_arg2)
      ∧ r.2.mem ((c.tc : Thread Cert.PeerMix.nD Cert.PeerMix.τ).loc Cert.PeerMix.main_arg3) = m ((c.tc : Thread Cert.PeerMix.nD Cert.PeerMix.τ).loc Cert.PeerMix.main_arg3)
      ∧ r.2.mem ((c.tc : Thread Cert.PeerMix.nD Cert.PeerMix.τ).loc Cert.PeerMix.main_arg4) = m ((c.tc : Thread Cert.PeerMix.nD Cert.PeerMix.τ).loc Cert.PeerMix.main_arg4)
      ∧ r.2.mem ((c.tc : Thread Cert.PeerMix.nD Cert.PeerMix.τ).loc Cert.PeerMix.main_arg5) = m ((c.tc : Thread Cert.PeerMix.nD Cert.PeerMix.τ).loc Cert.PeerMix.main_arg5)
      ∧ r.2.mem ((c.tc : Thread Cert.PeerMix.nD Cert.PeerMix.τ).loc Cert.PeerMix.main_arg6) = m ((c.tc : Thread Cert.PeerMix.nD Cert.PeerMix.τ).loc Cert.PeerMix.main_arg6)
      ∧ r.2.mem ((c.tc : Thread Cert.PeerMix.nD Cert.PeerMix.τ).loc Cert.PeerMix.main_arg7) = m ((c.tc : Thread Cert.PeerMix.nD Cert.PeerMix.τ).loc Cert.PeerMix.main_arg7))
      ∧ r.2.sem = fun _ => 0)

def quiescent_PeerMixIdeal [hPeerMixIdeal : Cert.PeerMixIdeal.Facts] : Prop :=
  ∀ (m : (ℓ : Loc Cert.PeerMixIdeal.nD Cert.PeerMixIdeal.τ Cert.PeerMixIdeal.sig) → Buf (Elt Ideal) ℓ) (g : Dev Cert.PeerMixIdeal.nD → PrngReg), Pre_PeerMixIdeal m →
    θ_run (Cert.PeerMixIdeal.defs (F := Ideal)) (onTc (τ := Cert.PeerMixIdeal.τ) (Cert.PeerMixIdeal.main (F := Ideal))) ⟨m, fun _ => 0, g⟩ (fun r => (∀ c : Dev Cert.PeerMixIdeal.nD,
      r.2.mem ((c.tc : Thread Cert.PeerMixIdeal.nD Cert.PeerMixIdeal.τ).loc Cert.PeerMixIdeal.main_arg0) = m ((c.tc : Thread Cert.PeerMixIdeal.nD Cert.PeerMixIdeal.τ).loc Cert.PeerMixIdeal.main_arg0)
      ∧ r.2.mem ((c.tc : Thread Cert.PeerMixIdeal.nD Cert.PeerMixIdeal.τ).loc Cert.PeerMixIdeal.main_arg1) = m ((c.tc : Thread Cert.PeerMixIdeal.nD Cert.PeerMixIdeal.τ).loc Cert.PeerMixIdeal.main_arg1)
      ∧ r.2.mem ((c.tc : Thread Cert.PeerMixIdeal.nD Cert.PeerMixIdeal.τ).loc Cert.PeerMixIdeal.main_arg2) = m ((c.tc : Thread Cert.PeerMixIdeal.nD Cert.PeerMixIdeal.τ).loc Cert.PeerMixIdeal.main_arg2)
      ∧ r.2.mem ((c.tc : Thread Cert.PeerMixIdeal.nD Cert.PeerMixIdeal.τ).loc Cert.PeerMixIdeal.main_arg3) = m ((c.tc : Thread Cert.PeerMixIdeal.nD Cert.PeerMixIdeal.τ).loc Cert.PeerMixIdeal.main_arg3)
      ∧ r.2.mem ((c.tc : Thread Cert.PeerMixIdeal.nD Cert.PeerMixIdeal.τ).loc Cert.PeerMixIdeal.main_arg4) = m ((c.tc : Thread Cert.PeerMixIdeal.nD Cert.PeerMixIdeal.τ).loc Cert.PeerMixIdeal.main_arg4)
      ∧ r.2.mem ((c.tc : Thread Cert.PeerMixIdeal.nD Cert.PeerMixIdeal.τ).loc Cert.PeerMixIdeal.main_arg5) = m ((c.tc : Thread Cert.PeerMixIdeal.nD Cert.PeerMixIdeal.τ).loc Cert.PeerMixIdeal.main_arg5)
      ∧ r.2.mem ((c.tc : Thread Cert.PeerMixIdeal.nD Cert.PeerMixIdeal.τ).loc Cert.PeerMixIdeal.main_arg6) = m ((c.tc : Thread Cert.PeerMixIdeal.nD Cert.PeerMixIdeal.τ).loc Cert.PeerMixIdeal.main_arg6)
      ∧ r.2.mem ((c.tc : Thread Cert.PeerMixIdeal.nD Cert.PeerMixIdeal.τ).loc Cert.PeerMixIdeal.main_arg7) = m ((c.tc : Thread Cert.PeerMixIdeal.nD Cert.PeerMixIdeal.τ).loc Cert.PeerMixIdeal.main_arg7))
      ∧ r.2.sem = fun _ => 0)

def quiescent_PeerMixRefIdeal [hPeerMixRefIdeal : Cert.PeerMixRefIdeal.Facts] : Prop :=
  ∀ (m : (ℓ : Loc Cert.PeerMixRefIdeal.nD Cert.PeerMixRefIdeal.τ Cert.PeerMixRefIdeal.sig) → Buf (Elt Ideal) ℓ) (g : Dev Cert.PeerMixRefIdeal.nD → PrngReg), Pre_PeerMixRefIdeal m →
    θ_run (Cert.PeerMixRefIdeal.defs (F := Ideal)) (onTc (τ := Cert.PeerMixRefIdeal.τ) (Cert.PeerMixRefIdeal.main (F := Ideal))) ⟨m, fun _ => 0, g⟩ (fun r => (∀ c : Dev Cert.PeerMixRefIdeal.nD,
      r.2.mem ((c.tc : Thread Cert.PeerMixRefIdeal.nD Cert.PeerMixRefIdeal.τ).loc Cert.PeerMixRefIdeal.main_arg0) = m ((c.tc : Thread Cert.PeerMixRefIdeal.nD Cert.PeerMixRefIdeal.τ).loc Cert.PeerMixRefIdeal.main_arg0)
      ∧ r.2.mem ((c.tc : Thread Cert.PeerMixRefIdeal.nD Cert.PeerMixRefIdeal.τ).loc Cert.PeerMixRefIdeal.main_arg1) = m ((c.tc : Thread Cert.PeerMixRefIdeal.nD Cert.PeerMixRefIdeal.τ).loc Cert.PeerMixRefIdeal.main_arg1)
      ∧ r.2.mem ((c.tc : Thread Cert.PeerMixRefIdeal.nD Cert.PeerMixRefIdeal.τ).loc Cert.PeerMixRefIdeal.main_arg2) = m ((c.tc : Thread Cert.PeerMixRefIdeal.nD Cert.PeerMixRefIdeal.τ).loc Cert.PeerMixRefIdeal.main_arg2)
      ∧ r.2.mem ((c.tc : Thread Cert.PeerMixRefIdeal.nD Cert.PeerMixRefIdeal.τ).loc Cert.PeerMixRefIdeal.main_arg3) = m ((c.tc : Thread Cert.PeerMixRefIdeal.nD Cert.PeerMixRefIdeal.τ).loc Cert.PeerMixRefIdeal.main_arg3)
      ∧ r.2.mem ((c.tc : Thread Cert.PeerMixRefIdeal.nD Cert.PeerMixRefIdeal.τ).loc Cert.PeerMixRefIdeal.main_arg4) = m ((c.tc : Thread Cert.PeerMixRefIdeal.nD Cert.PeerMixRefIdeal.τ).loc Cert.PeerMixRefIdeal.main_arg4)
      ∧ r.2.mem ((c.tc : Thread Cert.PeerMixRefIdeal.nD Cert.PeerMixRefIdeal.τ).loc Cert.PeerMixRefIdeal.main_arg5) = m ((c.tc : Thread Cert.PeerMixRefIdeal.nD Cert.PeerMixRefIdeal.τ).loc Cert.PeerMixRefIdeal.main_arg5)
      ∧ r.2.mem ((c.tc : Thread Cert.PeerMixRefIdeal.nD Cert.PeerMixRefIdeal.τ).loc Cert.PeerMixRefIdeal.main_arg6) = m ((c.tc : Thread Cert.PeerMixRefIdeal.nD Cert.PeerMixRefIdeal.τ).loc Cert.PeerMixRefIdeal.main_arg6)
      ∧ r.2.mem ((c.tc : Thread Cert.PeerMixRefIdeal.nD Cert.PeerMixRefIdeal.τ).loc Cert.PeerMixRefIdeal.main_arg7) = m ((c.tc : Thread Cert.PeerMixRefIdeal.nD Cert.PeerMixRefIdeal.τ).loc Cert.PeerMixRefIdeal.main_arg7))
      ∧ r.2.sem = fun _ => 0)

def preserves_Moba_MobaIdeal : Prop :=
  True

def algebraic_MobaIdeal_MobaRefIdeal_pre_finite_scores [hMobaIdeal : Cert.MobaIdeal.Facts] [hMobaRefIdeal : Cert.MobaRefIdeal.Facts] [hPre_finite_scores : Cert.Pre_finite_scores.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_scores m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v132) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_PeerQuery_PeerQueryIdeal : Prop :=
  True

def algebraic_PeerQueryIdeal_PeerQueryRefIdeal [hPeerQueryIdeal : Cert.PeerQueryIdeal.Facts] [hPeerQueryRefIdeal : Cert.PeerQueryRefIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v1)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v1) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v1) = v0 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_LastNorm_LastNormIdeal : Prop :=
  True

def algebraic_LastNormIdeal_LastNormRefIdeal [hLastNormIdeal : Cert.LastNormIdeal.Facts] [hLastNormRefIdeal : Cert.LastNormRefIdeal.Facts] : Prop :=
  ∀ (m : (ℓ : Loc Cert.LastNormIdeal.nD Cert.LastNormIdeal.τ Cert.LastNormIdeal.sig) → Buf (Elt Ideal) ℓ) (g : Dev Cert.LastNormIdeal.nD → PrngReg)
    (m' : (ℓ : Loc Cert.LastNormRefIdeal.nD Cert.LastNormRefIdeal.τ Cert.LastNormRefIdeal.sig) → Buf (Elt Ideal) ℓ) (g' : Dev Cert.LastNormRefIdeal.nD → PrngReg), Pre_LastNormIdeal m →
    (∀ c : Dev Cert.LastNormIdeal.nD,
      m' ((c.tc : Thread Cert.LastNormRefIdeal.nD Cert.LastNormRefIdeal.τ).loc Cert.LastNormRefIdeal.main_arg0) = m ((c.tc : Thread Cert.LastNormIdeal.nD Cert.LastNormIdeal.τ).loc Cert.LastNormIdeal.main_arg0)
      ∧ m' ((c.tc : Thread Cert.LastNormRefIdeal.nD Cert.LastNormRefIdeal.τ).loc Cert.LastNormRefIdeal.main_arg1) = m ((c.tc : Thread Cert.LastNormIdeal.nD Cert.LastNormIdeal.τ).loc Cert.LastNormIdeal.main_arg1)
      ∧ m' ((c.tc : Thread Cert.LastNormRefIdeal.nD Cert.LastNormRefIdeal.τ).loc Cert.LastNormRefIdeal.main_arg2) = m ((c.tc : Thread Cert.LastNormIdeal.nD Cert.LastNormIdeal.τ).loc Cert.LastNormIdeal.main_arg2)) →
    ∃ (v0 : (c : Dev Cert.LastNormIdeal.nD) → Buf (Elt Ideal) ((c.tc : Thread Cert.LastNormIdeal.nD Cert.LastNormIdeal.τ).loc Cert.LastNormIdeal.main_v1)),
      θ_run (Cert.LastNormIdeal.defs (F := Ideal)) (onTc (τ := Cert.LastNormIdeal.τ) (Cert.LastNormIdeal.main (F := Ideal))) ⟨m, fun _ => 0, g⟩ (fun r => ∀ c : Dev Cert.LastNormIdeal.nD,
          r.2.mem ((c.tc : Thread Cert.LastNormIdeal.nD Cert.LastNormIdeal.τ).loc Cert.LastNormIdeal.main_v1) = v0 c
          ∧ r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
          ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
          ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2))
      ∧ θ_run (Cert.LastNormRefIdeal.defs (F := Ideal)) (onTc (τ := Cert.LastNormRefIdeal.τ) (Cert.LastNormRefIdeal.main (F := Ideal))) ⟨m', fun _ => 0, g'⟩ (fun r => ∀ c : Dev Cert.LastNormRefIdeal.nD,
          r.2.mem ((c.tc : Thread Cert.LastNormRefIdeal.nD Cert.LastNormRefIdeal.τ).loc Cert.LastNormRefIdeal.main_v13) = v0 c
          ∧ r.2.mem ((c.tc : Thread Cert.LastNormRefIdeal.nD Cert.LastNormRefIdeal.τ).loc Cert.LastNormRefIdeal.main_arg0) = m' ((c.tc : Thread Cert.LastNormRefIdeal.nD Cert.LastNormRefIdeal.τ).loc Cert.LastNormRefIdeal.main_arg0)
          ∧ r.2.mem ((c.tc : Thread Cert.LastNormRefIdeal.nD Cert.LastNormRefIdeal.τ).loc Cert.LastNormRefIdeal.main_arg1) = m' ((c.tc : Thread Cert.LastNormRefIdeal.nD Cert.LastNormRefIdeal.τ).loc Cert.LastNormRefIdeal.main_arg1)
          ∧ r.2.mem ((c.tc : Thread Cert.LastNormRefIdeal.nD Cert.LastNormRefIdeal.τ).loc Cert.LastNormRefIdeal.main_arg2) = m' ((c.tc : Thread Cert.LastNormRefIdeal.nD Cert.LastNormRefIdeal.τ).loc Cert.LastNormRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v32) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_PeerMix_PeerMixIdeal : Prop :=
  True

def algebraic_PeerMixIdeal_PeerMixRefIdeal [hPeerMixIdeal : Cert.PeerMixIdeal.Facts] [hPeerMixRefIdeal : Cert.PeerMixRefIdeal.Facts] : Prop :=
  ∀ (m : (ℓ : Loc Cert.PeerMixIdeal.nD Cert.PeerMixIdeal.τ Cert.PeerMixIdeal.sig) → Buf (Elt Ideal) ℓ) (g : Dev Cert.PeerMixIdeal.nD → PrngReg)
    (m' : (ℓ : Loc Cert.PeerMixRefIdeal.nD Cert.PeerMixRefIdeal.τ Cert.PeerMixRefIdeal.sig) → Buf (Elt Ideal) ℓ) (g' : Dev Cert.PeerMixRefIdeal.nD → PrngReg), Pre_PeerMixIdeal m →
    (∀ c : Dev Cert.PeerMixIdeal.nD,
      m' ((c.tc : Thread Cert.PeerMixRefIdeal.nD Cert.PeerMixRefIdeal.τ).loc Cert.PeerMixRefIdeal.main_arg0) = m ((c.tc : Thread Cert.PeerMixIdeal.nD Cert.PeerMixIdeal.τ).loc Cert.PeerMixIdeal.main_arg0)
      ∧ m' ((c.tc : Thread Cert.PeerMixRefIdeal.nD Cert.PeerMixRefIdeal.τ).loc Cert.PeerMixRefIdeal.main_arg1) = m ((c.tc : Thread Cert.PeerMixIdeal.nD Cert.PeerMixIdeal.τ).loc Cert.PeerMixIdeal.main_arg1)
      ∧ m' ((c.tc : Thread Cert.PeerMixRefIdeal.nD Cert.PeerMixRefIdeal.τ).loc Cert.PeerMixRefIdeal.main_arg2) = m ((c.tc : Thread Cert.PeerMixIdeal.nD Cert.PeerMixIdeal.τ).loc Cert.PeerMixIdeal.main_arg2)
      ∧ m' ((c.tc : Thread Cert.PeerMixRefIdeal.nD Cert.PeerMixRefIdeal.τ).loc Cert.PeerMixRefIdeal.main_arg3) = m ((c.tc : Thread Cert.PeerMixIdeal.nD Cert.PeerMixIdeal.τ).loc Cert.PeerMixIdeal.main_arg3)
      ∧ m' ((c.tc : Thread Cert.PeerMixRefIdeal.nD Cert.PeerMixRefIdeal.τ).loc Cert.PeerMixRefIdeal.main_arg4) = m ((c.tc : Thread Cert.PeerMixIdeal.nD Cert.PeerMixIdeal.τ).loc Cert.PeerMixIdeal.main_arg4)
      ∧ m' ((c.tc : Thread Cert.PeerMixRefIdeal.nD Cert.PeerMixRefIdeal.τ).loc Cert.PeerMixRefIdeal.main_arg5) = m ((c.tc : Thread Cert.PeerMixIdeal.nD Cert.PeerMixIdeal.τ).loc Cert.PeerMixIdeal.main_arg5)
      ∧ m' ((c.tc : Thread Cert.PeerMixRefIdeal.nD Cert.PeerMixRefIdeal.τ).loc Cert.PeerMixRefIdeal.main_arg6) = m ((c.tc : Thread Cert.PeerMixIdeal.nD Cert.PeerMixIdeal.τ).loc Cert.PeerMixIdeal.main_arg6)
      ∧ m' ((c.tc : Thread Cert.PeerMixRefIdeal.nD Cert.PeerMixRefIdeal.τ).loc Cert.PeerMixRefIdeal.main_arg7) = m ((c.tc : Thread Cert.PeerMixIdeal.nD Cert.PeerMixIdeal.τ).loc Cert.PeerMixIdeal.main_arg7)) →
    ∃ (v0 : (c : Dev Cert.PeerMixIdeal.nD) → Buf (Elt Ideal) ((c.tc : Thread Cert.PeerMixIdeal.nD Cert.PeerMixIdeal.τ).loc Cert.PeerMixIdeal.main_v2)),
      θ_run (Cert.PeerMixIdeal.defs (F := Ideal)) (onTc (τ := Cert.PeerMixIdeal.τ) (Cert.PeerMixIdeal.main (F := Ideal))) ⟨m, fun _ => 0, g⟩ (fun r => ∀ c : Dev Cert.PeerMixIdeal.nD,
          r.2.mem ((c.tc : Thread Cert.PeerMixIdeal.nD Cert.PeerMixIdeal.τ).loc Cert.PeerMixIdeal.main_v2) = v0 c
          ∧ r.2.mem ((c.tc : Thread Cert.PeerMixIdeal.nD Cert.PeerMixIdeal.τ).loc Cert.PeerMixIdeal.main_arg0) = m ((c.tc : Thread Cert.PeerMixIdeal.nD Cert.PeerMixIdeal.τ).loc Cert.PeerMixIdeal.main_arg0)
          ∧ r.2.mem ((c.tc : Thread Cert.PeerMixIdeal.nD Cert.PeerMixIdeal.τ).loc Cert.PeerMixIdeal.main_arg1) = m ((c.tc : Thread Cert.PeerMixIdeal.nD Cert.PeerMixIdeal.τ).loc Cert.PeerMixIdeal.main_arg1)
          ∧ r.2.mem ((c.tc : Thread Cert.PeerMixIdeal.nD Cert.PeerMixIdeal.τ).loc Cert.PeerMixIdeal.main_arg2) = m ((c.tc : Thread Cert.PeerMixIdeal.nD Cert.PeerMixIdeal.τ).loc Cert.PeerMixIdeal.main_arg2)
          ∧ r.2.mem ((c.tc : Thread Cert.PeerMixIdeal.nD Cert.PeerMixIdeal.τ).loc Cert.PeerMixIdeal.main_arg3) = m ((c.tc : Thread Cert.PeerMixIdeal.nD Cert.PeerMixIdeal.τ).loc Cert.PeerMixIdeal.main_arg3)
          ∧ r.2.mem ((c.tc : Thread Cert.PeerMixIdeal.nD Cert.PeerMixIdeal.τ).loc Cert.PeerMixIdeal.main_arg4) = m ((c.tc : Thread Cert.PeerMixIdeal.nD Cert.PeerMixIdeal.τ).loc Cert.PeerMixIdeal.main_arg4)
          ∧ r.2.mem ((c.tc : Thread Cert.PeerMixIdeal.nD Cert.PeerMixIdeal.τ).loc Cert.PeerMixIdeal.main_arg5) = m ((c.tc : Thread Cert.PeerMixIdeal.nD Cert.PeerMixIdeal.τ).loc Cert.PeerMixIdeal.main_arg5)
          ∧ r.2.mem ((c.tc : Thread Cert.PeerMixIdeal.nD Cert.PeerMixIdeal.τ).loc Cert.PeerMixIdeal.main_arg6) = m ((c.tc : Thread Cert.PeerMixIdeal.nD Cert.PeerMixIdeal.τ).loc Cert.PeerMixIdeal.main_arg6)
          ∧ r.2.mem ((c.tc : Thread Cert.PeerMixIdeal.nD Cert.PeerMixIdeal.τ).loc Cert.PeerMixIdeal.main_arg7) = m ((c.tc : Thread Cert.PeerMixIdeal.nD Cert.PeerMixIdeal.τ).loc Cert.PeerMixIdeal.main_arg7))
      ∧ θ_run (Cert.PeerMixRefIdeal.defs (F := Ideal)) (onTc (τ := Cert.PeerMixRefIdeal.τ) (Cert.PeerMixRefIdeal.main (F := Ideal))) ⟨m', fun _ => 0, g'⟩ (fun r => ∀ c : Dev Cert.PeerMixRefIdeal.nD,
          r.2.mem ((c.tc : Thread Cert.PeerMixRefIdeal.nD Cert.PeerMixRefIdeal.τ).loc Cert.PeerMixRefIdeal.main_v28) = v0 c
          ∧ r.2.mem ((c.tc : Thread Cert.PeerMixRefIdeal.nD Cert.PeerMixRefIdeal.τ).loc Cert.PeerMixRefIdeal.main_arg0) = m' ((c.tc : Thread Cert.PeerMixRefIdeal.nD Cert.PeerMixRefIdeal.τ).loc Cert.PeerMixRefIdeal.main_arg0)
          ∧ r.2.mem ((c.tc : Thread Cert.PeerMixRefIdeal.nD Cert.PeerMixRefIdeal.τ).loc Cert.PeerMixRefIdeal.main_arg1) = m' ((c.tc : Thread Cert.PeerMixRefIdeal.nD Cert.PeerMixRefIdeal.τ).loc Cert.PeerMixRefIdeal.main_arg1)
          ∧ r.2.mem ((c.tc : Thread Cert.PeerMixRefIdeal.nD Cert.PeerMixRefIdeal.τ).loc Cert.PeerMixRefIdeal.main_arg2) = m' ((c.tc : Thread Cert.PeerMixRefIdeal.nD Cert.PeerMixRefIdeal.τ).loc Cert.PeerMixRefIdeal.main_arg2)
          ∧ r.2.mem ((c.tc : Thread Cert.PeerMixRefIdeal.nD Cert.PeerMixRefIdeal.τ).loc Cert.PeerMixRefIdeal.main_arg3) = m' ((c.tc : Thread Cert.PeerMixRefIdeal.nD Cert.PeerMixRefIdeal.τ).loc Cert.PeerMixRefIdeal.main_arg3)
          ∧ r.2.mem ((c.tc : Thread Cert.PeerMixRefIdeal.nD Cert.PeerMixRefIdeal.τ).loc Cert.PeerMixRefIdeal.main_arg4) = m' ((c.tc : Thread Cert.PeerMixRefIdeal.nD Cert.PeerMixRefIdeal.τ).loc Cert.PeerMixRefIdeal.main_arg4)
          ∧ r.2.mem ((c.tc : Thread Cert.PeerMixRefIdeal.nD Cert.PeerMixRefIdeal.τ).loc Cert.PeerMixRefIdeal.main_arg5) = m' ((c.tc : Thread Cert.PeerMixRefIdeal.nD Cert.PeerMixRefIdeal.τ).loc Cert.PeerMixRefIdeal.main_arg5)
          ∧ r.2.mem ((c.tc : Thread Cert.PeerMixRefIdeal.nD Cert.PeerMixRefIdeal.τ).loc Cert.PeerMixRefIdeal.main_arg6) = m' ((c.tc : Thread Cert.PeerMixRefIdeal.nD Cert.PeerMixRefIdeal.τ).loc Cert.PeerMixRefIdeal.main_arg6)
          ∧ r.2.mem ((c.tc : Thread Cert.PeerMixRefIdeal.nD Cert.PeerMixRefIdeal.τ).loc Cert.PeerMixRefIdeal.main_arg7) = m' ((c.tc : Thread Cert.PeerMixRefIdeal.nD Cert.PeerMixRefIdeal.τ).loc Cert.PeerMixRefIdeal.main_arg7))

def Claim : Prop :=
  ∃ (hMoba : Cert.Moba.Facts) (hMobaIdeal : Cert.MobaIdeal.Facts) (hMobaRefIdeal : Cert.MobaRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hPeerQuery : Cert.PeerQuery.Facts) (hPeerQueryIdeal : Cert.PeerQueryIdeal.Facts) (hPeerQueryRefIdeal : Cert.PeerQueryRefIdeal.Facts) (hNorm : Cert.Norm.Facts) (hNormIdeal : Cert.NormIdeal.Facts) (hNormRefIdeal : Cert.NormRefIdeal.Facts) (hLastNorm : Cert.LastNorm.Facts) (hLastNormIdeal : Cert.LastNormIdeal.Facts) (hLastNormRefIdeal : Cert.LastNormRefIdeal.Facts) (hConv : Cert.Conv.Facts) (hConvIdeal : Cert.ConvIdeal.Facts) (hConvRefIdeal : Cert.ConvRefIdeal.Facts) (hPeerMix : Cert.PeerMix.Facts) (hPeerMixIdeal : Cert.PeerMixIdeal.Facts) (hPeerMixRefIdeal : Cert.PeerMixRefIdeal.Facts) (hPre_finite_scores : Cert.Pre_finite_scores.Facts),
    quiescent_Moba (hMoba := hMoba)
    ∧ quiescent_MobaIdeal (hMobaIdeal := hMobaIdeal)
    ∧ quiescent_MobaIdeal_pre_finite_scores (hMobaIdeal := hMobaIdeal) (hPre_finite_scores := hPre_finite_scores)
    ∧ quiescent_MobaRefIdeal (hMobaRefIdeal := hMobaRefIdeal)
    ∧ quiescent_MobaRefIdeal_pre_finite_scores (hMobaRefIdeal := hMobaRefIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PeerQuery (hPeerQuery := hPeerQuery)
    ∧ quiescent_PeerQueryIdeal (hPeerQueryIdeal := hPeerQueryIdeal)
    ∧ quiescent_PeerQueryRefIdeal (hPeerQueryRefIdeal := hPeerQueryRefIdeal)
    ∧ quiescent_Norm (hNorm := hNorm)
    ∧ quiescent_NormIdeal (hNormIdeal := hNormIdeal)
    ∧ quiescent_NormRefIdeal (hNormRefIdeal := hNormRefIdeal)
    ∧ quiescent_LastNorm (hLastNorm := hLastNorm)
    ∧ quiescent_LastNormIdeal (hLastNormIdeal := hLastNormIdeal)
    ∧ quiescent_LastNormRefIdeal (hLastNormRefIdeal := hLastNormRefIdeal)
    ∧ quiescent_Conv (hConv := hConv)
    ∧ quiescent_ConvIdeal (hConvIdeal := hConvIdeal)
    ∧ quiescent_ConvRefIdeal (hConvRefIdeal := hConvRefIdeal)
    ∧ quiescent_PeerMix (hPeerMix := hPeerMix)
    ∧ quiescent_PeerMixIdeal (hPeerMixIdeal := hPeerMixIdeal)
    ∧ quiescent_PeerMixRefIdeal (hPeerMixRefIdeal := hPeerMixRefIdeal)
    ∧ preserves_Moba_MobaIdeal
    ∧ algebraic_MobaIdeal_MobaRefIdeal_pre_finite_scores (hMobaIdeal := hMobaIdeal) (hMobaRefIdeal := hMobaRefIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_PeerQuery_PeerQueryIdeal
    ∧ algebraic_PeerQueryIdeal_PeerQueryRefIdeal (hPeerQueryIdeal := hPeerQueryIdeal) (hPeerQueryRefIdeal := hPeerQueryRefIdeal)
    ∧ preserves_Norm_NormIdeal
    ∧ algebraic_NormIdeal_NormRefIdeal (hNormIdeal := hNormIdeal) (hNormRefIdeal := hNormRefIdeal)
    ∧ preserves_LastNorm_LastNormIdeal
    ∧ algebraic_LastNormIdeal_LastNormRefIdeal (hLastNormIdeal := hLastNormIdeal) (hLastNormRefIdeal := hLastNormRefIdeal)
    ∧ preserves_Conv_ConvIdeal
    ∧ algebraic_ConvIdeal_ConvRefIdeal (hConvIdeal := hConvIdeal) (hConvRefIdeal := hConvRefIdeal)
    ∧ preserves_PeerMix_PeerMixIdeal
    ∧ algebraic_PeerMixIdeal_PeerMixRefIdeal (hPeerMixIdeal := hPeerMixIdeal) (hPeerMixRefIdeal := hPeerMixRefIdeal)
-- ==== Pre_finite_scores.lean ====
abbrev S8192x20480 : Shape := ⟨2, ![8192, 20480]⟩
abbrev S8192x4096 : Shape := ⟨2, ![8192, 4096]⟩
abbrev S_ : Shape := ⟨0, ![]⟩

class Facts : Prop where
  slices_S8192x20480_S8192x4096_0_6144 : S8192x20480.Slices ![0, 6144] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x20480 .f32) : IVec S_ 1 :=
  let main_v0 : FVec F S8192x4096 .f32 := (extractStridedSlice S8192x4096 ![0, 6144] · slices_S8192x20480_S8192x4096_0_6144) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  main_v4
-- ==== Moba.lean ====
abbrev S8192x20480 : Shape := ⟨2, ![8192, 20480]⟩
abbrev S8192x2048 : Shape := ⟨2, ![8192, 2048]⟩
abbrev S2048x128 : Shape := ⟨2, ![2048, 128]⟩
abbrev S8x256x128 : Shape := ⟨3, ![8, 256, 128]⟩
abbrev S8x128 : Shape := ⟨2, ![8, 128]⟩
abbrev S256x8 : Shape := ⟨2, ![256, 8]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 2
  | .vmem => 8
  | .smem => 0
  | _ => 0

abbrev bufTy : (tb : Table) → Fin (tcTables nBuf tb) → BufTy
  | .hbm, ⟨0, _⟩ => ⟨S8192x20480, .f32⟩
  | .hbm, ⟨1, _⟩ => ⟨S8192x2048, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MobaRefIdeal.lean ====
abbrev S8192x20480 : Shape := ⟨2, ![8192, 20480]⟩
abbrev S8192x2048 : Shape := ⟨2, ![8192, 2048]⟩
abbrev S4x2048x16x128 : Shape := ⟨4, ![4, 2048, 16, 128]⟩
abbrev S4x16x2048x128 : Shape := ⟨4, ![4, 16, 2048, 128]⟩
abbrev S4x16x8x256x128 : Shape := ⟨5, ![4, 16, 8, 256, 128]⟩
abbrev S_ : Shape := ⟨0, ![]⟩
abbrev S4x16x8x128 : Shape := ⟨4, ![4, 16, 8, 128]⟩
abbrev S2048 : Shape := ⟨1, ![2048]⟩
abbrev S4x16x2048x8 : Shape := ⟨4, ![4, 16, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S4x16x2048x3 : Shape := ⟨4, ![4, 16, 2048, 3]⟩
abbrev S1x1x2048x1 : Shape := ⟨4, ![1, 1, 2048, 1]⟩
abbrev S4 : Shape := ⟨1, ![4]⟩
abbrev S4x1x1x1 : Shape := ⟨4, ![4, 1, 1, 1]⟩
abbrev S16 : Shape := ⟨1, ![16]⟩
abbrev S1x16x1x1 : Shape := ⟨4, ![1, 16, 1, 1]⟩
abbrev S256 : Shape := ⟨1, ![256]⟩
abbrev S1x256 : Shape := ⟨2, ![1, 256]⟩
abbrev S2048x256 : Shape := ⟨2, ![2048, 256]⟩
abbrev S4x16x2048x256x128 : Shape := ⟨5, ![4, 16, 2048, 256, 128]⟩
abbrev S4x16x2048x256 : Shape := ⟨4, ![4, 16, 2048, 256]⟩
abbrev S4x16x2048x3x1 : Shape := ⟨5, ![4, 16, 2048, 3, 1]⟩
abbrev S4x16x2048x3x3 : Shape := ⟨5, ![4, 16, 2048, 3, 3]⟩
abbrev S4x16x2048x3x256x128 : Shape := ⟨6, ![4, 16, 2048, 3, 256, 128]⟩
abbrev S4x16x2048x3x256 : Shape := ⟨5, ![4, 16, 2048, 3, 256]⟩
abbrev S4x16x2048x768 : Shape := ⟨4, ![4, 16, 2048, 768]⟩
abbrev S4x16x2048x1024 : Shape := ⟨4, ![4, 16, 2048, 1024]⟩
abbrev S4x16x2048 : Shape := ⟨3, ![4, 16, 2048]⟩
abbrev S4x16x2048x1 : Shape := ⟨4, ![4, 16, 2048, 1]⟩

abbrev nBuf : Space → Nat
  | .hbm => 189
  | .vmem => 0
  | .smem => 0
  | _ => 0

abbrev hbmTy0_0 (i : Nat) : BufTy := match i % 128 with
  | 0 => ⟨S8192x20480, .f32⟩
  | 1 => ⟨S8192x2048, .f32⟩
  | 2 => ⟨S4x2048x16x128, .f32⟩
  | 3 => ⟨S4x16x2048x128, .f32⟩
  | 4 => ⟨S8192x2048, .f32⟩
  | 5 => ⟨S4x2048x16x128, .f32⟩
  | 6 => ⟨S4x16x2048x128, .f32⟩
  | 7 => ⟨S8192x2048, .f32⟩
  | 8 => ⟨S4x2048x16x128, .f32⟩
  | 9 => ⟨S4x16x2048x128, .f32⟩
  | 10 => ⟨S4x16x8x256x128, .f32⟩
  | 11 => ⟨S4x16x8x256x128, .f32⟩
  | 12 => ⟨S_, .f32⟩
  | 13 => ⟨S4x16x8x128, .f32⟩
  | 14 => ⟨S_, .f32⟩
  | 15 => ⟨S4x16x8x128, .f32⟩
  | 16 => ⟨S4x16x8x128, .f32⟩
  | 17 => ⟨S2048, .i32⟩
  | 18 => ⟨S_, .i32⟩
  | 19 => ⟨S_, .i32⟩
  | 20 => ⟨S2048, .i32⟩
  | 21 => ⟨S2048, .i32⟩
  | 22 => ⟨S2048, .i32⟩
  | 23 => ⟨S_, .i32⟩
  | 24 => ⟨S2048, .i32⟩
  | 25 => ⟨S2048, .i1⟩
  | 26 => ⟨S2048, .i32⟩
  | 27 => ⟨S2048, .i32⟩
  | 28 => ⟨S_, .i32⟩
  | 29 => ⟨S2048, .i32⟩
  | 30 => ⟨S2048, .i1⟩
  | 31 => ⟨S2048, .i1⟩
  | 32 => ⟨S_, .i32⟩
  | 33 => ⟨S2048, .i32⟩
  | 34 => ⟨S2048, .i32⟩
  | 35 => ⟨S2048, .i32⟩
  | 36 => ⟨S4x16x2048x8, .f32⟩
  | 37 => ⟨S8, .i32⟩
  | 38 => ⟨S1x8, .i32⟩
  | 39 => ⟨S2048x1, .i32⟩
  | 40 => ⟨S2048x8, .i32⟩
  | 41 => ⟨S2048x8, .i32⟩
  | 42 => ⟨S2048x8, .i1⟩
  | 43 => ⟨S_, .f32⟩
  | 44 => ⟨S_, .f32⟩
  | 45 => ⟨S4x16x2048x8, .i1⟩
  | 46 => ⟨S4x16x2048x8, .f32⟩
  | 47 => ⟨S4x16x2048x8, .f32⟩
  | 48 => ⟨S4x16x2048x3, .f32⟩
  | 49 => ⟨S4x16x2048x3, .i32⟩
  | 50 => ⟨S2048x1, .i32⟩
  | 51 => ⟨S1x1x2048x1, .i32⟩
  | 52 => ⟨S4x16x2048x3, .i32⟩
  | 53 => ⟨S4x16x2048x3, .i1⟩
  | 54 => ⟨S4, .i32⟩
  | 55 => ⟨S4x1x1x1, .i32⟩
  | 56 => ⟨S16, .i32⟩
  | 57 => ⟨S1x16x1x1, .i32⟩
  | 58 => ⟨S2048, .i32⟩
  | 59 => ⟨S2048x1, .i32⟩
  | 60 => ⟨S_, .i32⟩
  | 61 => ⟨S2048x1, .i32⟩
  | 62 => ⟨S2048x1, .i32⟩
  | 63 => ⟨S256, .i32⟩
  | 64 => ⟨S1x256, .i32⟩
  | 65 => ⟨S2048x256, .i32⟩
  | 66 => ⟨S2048x256, .i32⟩
  | 67 => ⟨S2048x256, .i32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S4x16x2048x256x128, .f32⟩
  | 77 => ⟨S_, .i32⟩
  | 78 => ⟨S2048, .i32⟩
  | 79 => ⟨S2048, .i1⟩
  | 80 => ⟨S_, .i32⟩
  | 81 => ⟨S2048, .i32⟩
  | 82 => ⟨S2048, .i32⟩
  | 83 => ⟨S2048, .i32⟩
  | 84 => ⟨S2048x1, .i32⟩
  | 85 => ⟨S4x16x2048x256x128, .f32⟩
  | 86 => ⟨S4x16x2048x256, .f32⟩
  | 87 => ⟨S_, .f32⟩
  | 88 => ⟨S4x16x2048x256, .f32⟩
  | 89 => ⟨S4x16x2048x256, .f32⟩
  | 90 => ⟨S2048x1, .i32⟩
  | 91 => ⟨S2048x256, .i32⟩
  | 92 => ⟨S2048x256, .i1⟩
  | 93 => ⟨S_, .f32⟩
  | 94 => ⟨S_, .f32⟩
  | 95 => ⟨S4x16x2048x256, .i1⟩
  | 96 => ⟨S4x16x2048x256, .f32⟩
  | 97 => ⟨S4x16x2048x256, .f32⟩
  | 98 => ⟨S_, .i32⟩
  | 99 => ⟨S4x1x1x1, .i32⟩
  | 100 => ⟨S4x1x1x1, .i1⟩
  | 101 => ⟨S_, .i32⟩
  | 102 => ⟨S4x1x1x1, .i32⟩
  | 103 => ⟨S4x1x1x1, .i32⟩
  | 104 => ⟨S4x1x1x1, .i32⟩
  | 105 => ⟨S_, .i32⟩
  | 106 => ⟨S1x16x1x1, .i32⟩
  | 107 => ⟨S1x16x1x1, .i1⟩
  | 108 => ⟨S_, .i32⟩
  | 109 => ⟨S1x16x1x1, .i32⟩
  | 110 => ⟨S1x16x1x1, .i32⟩
  | 111 => ⟨S1x16x1x1, .i32⟩
  | 112 => ⟨S_, .i32⟩
  | 113 => ⟨S4x16x2048x3, .i32⟩
  | 114 => ⟨S4x16x2048x3, .i1⟩
  | 115 => ⟨S_, .i32⟩
  | 116 => ⟨S4x16x2048x3, .i32⟩
  | 117 => ⟨S4x16x2048x3, .i32⟩
  | 118 => ⟨S4x16x2048x3, .i32⟩
  | 119 => ⟨S4x16x2048x3, .i32⟩
  | 120 => ⟨S4x16x2048x3, .i32⟩
  | 121 => ⟨S4x16x2048x3x1, .i32⟩
  | 122 => ⟨S4x16x2048x3x1, .i32⟩
  | 123 => ⟨S4x16x2048x3x1, .i32⟩
  | 124 => ⟨S4x16x2048x3x3, .i32⟩
  | 125 => ⟨S4x16x2048x3x256x128, .f32⟩
  | 126 => ⟨S_, .i32⟩
  | 127 => ⟨S4x1x1x1, .i32⟩
  | _ => ⟨S8192x20480, .f32⟩

abbrev hbmTy0_1 (i : Nat) : BufTy := match i % 128 with
  | 0 => ⟨S4x1x1x1, .i1⟩
  | 1 => ⟨S_, .i32⟩
  | 2 => ⟨S4x1x1x1, .i32⟩
  | 3 => ⟨S4x1x1x1, .i32⟩
  | 4 => ⟨S4x1x1x1, .i32⟩
  | 5 => ⟨S_, .i32⟩
  | 6 => ⟨S1x16x1x1, .i32⟩
  | 7 => ⟨S1x16x1x1, .i1⟩
  | 8 => ⟨S_, .i32⟩
  | 9 => ⟨S1x16x1x1, .i32⟩
  | 10 => ⟨S1x16x1x1, .i32⟩
  | 11 => ⟨S1x16x1x1, .i32⟩
  | 12 => ⟨S_, .i32⟩
  | 13 => ⟨S4x16x2048x3, .i32⟩
  | 14 => ⟨S4x16x2048x3, .i1⟩
  | 15 => ⟨S_, .i32⟩
  | 16 => ⟨S4x16x2048x3, .i32⟩
  | 17 => ⟨S4x16x2048x3, .i32⟩
  | 18 => ⟨S4x16x2048x3, .i32⟩
  | 19 => ⟨S4x16x2048x3, .i32⟩
  | 20 => ⟨S4x16x2048x3, .i32⟩
  | 21 => ⟨S4x16x2048x3x1, .i32⟩
  | 22 => ⟨S4x16x2048x3x1, .i32⟩
  | 23 => ⟨S4x16x2048x3x1, .i32⟩
  | 24 => ⟨S4x16x2048x3x3, .i32⟩
  | 25 => ⟨S4x16x2048x3x256x128, .f32⟩
  | 26 => ⟨S4x16x2048x3x256, .f32⟩
  | 27 => ⟨S_, .f32⟩
  | 28 => ⟨S4x16x2048x3x256, .f32⟩
  | 29 => ⟨S4x16x2048x3x256, .f32⟩
  | 30 => ⟨S4x16x2048x3x1, .i1⟩
  | 31 => ⟨S_, .f32⟩
  | 32 => ⟨S_, .f32⟩
  | 33 => ⟨S4x16x2048x3x256, .i1⟩
  | 34 => ⟨S4x16x2048x3x256, .f32⟩
  | 35 => ⟨S4x16x2048x3x256, .f32⟩
  | 36 => ⟨S4x16x2048x768, .f32⟩
  | 37 => ⟨S4x16x2048x1024, .f32⟩
  | 38 => ⟨S_, .f32⟩
  | 39 => ⟨S4x16x2048, .f32⟩
  | 40 => ⟨S_, .f32⟩
  | 41 => ⟨S4x16x2048, .f32⟩
  | 42 => ⟨S4x16x2048, .f32⟩
  | 43 => ⟨S4x16x2048x1, .f32⟩
  | 44 => ⟨S4x16x2048x1024, .f32⟩
  | 45 => ⟨S4x16x2048x1024, .f32⟩
  | 46 => ⟨S4x16x2048x1024, .f32⟩
  | 47 => ⟨S_, .f32⟩
  | 48 => ⟨S4x16x2048, .f32⟩
  | 49 => ⟨S4x16x2048x1, .f32⟩
  | 50 => ⟨S4x16x2048x1024, .f32⟩
  | 51 => ⟨S4x16x2048x1024, .f32⟩
  | 52 => ⟨S4x16x2048x256, .f32⟩
  | 53 => ⟨S4x16x2048x768, .f32⟩
  | 54 => ⟨S4x16x2048x3x256, .f32⟩
  | 55 => ⟨S4x16x2048x128, .f32⟩
  | 56 => ⟨S4x16x2048x128, .f32⟩
  | 57 => ⟨S4x16x2048x128, .f32⟩
  | 58 => ⟨S4x2048x16x128, .f32⟩
  | 59 => ⟨S8192x2048, .f32⟩
  | 60 => ⟨S8192x2048, .bf16⟩
  | _ => ⟨S8192x20480, .f32⟩

abbrev hbmTy (i : Nat) : BufTy := match i / 128 with
  | 0 => hbmTy0_0 i
  | 1 => hbmTy0_1 i
  | _ => ⟨S8192x20480, .f32⟩

abbrev bufTy : (tb : Table) → Fin (tcTables nBuf tb) → BufTy
  | .hbm, ⟨i, _⟩ => hbmTy i
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_values : Ref sig .tc := ⟨.hbm, 48, rfl⟩
abbrev main_indices : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_3 : Ref sig .tc := ⟨.hbm, 68, rfl⟩
abbrev main_v41 : Ref sig .tc := ⟨.hbm, 69, rfl⟩
abbrev main_v42 : Ref sig .tc := ⟨.hbm, 70, rfl⟩
abbrev main_c_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_5 : Ref sig .tc := ⟨.hbm, 77, rfl⟩
abbrev main_v48 : Ref sig .tc := ⟨.hbm, 78, rfl⟩
abbrev main_v49 : Ref sig .tc := ⟨.hbm, 79, rfl⟩
abbrev main_c_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_8 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v61 : Ref sig .tc := ⟨.hbm, 97, rfl⟩
abbrev main_c_9 : Ref sig .tc := ⟨.hbm, 98, rfl⟩
abbrev main_v62 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_11 : Ref sig .tc := ⟨.hbm, 105, rfl⟩
abbrev main_v67 : Ref sig .tc := ⟨.hbm, 106, rfl⟩
abbrev main_v68 : Ref sig .tc := ⟨.hbm, 107, rfl⟩
abbrev main_c_12 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_13 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_15 : Ref sig .tc := ⟨.hbm, 126, rfl⟩
abbrev main_v84 : Ref sig .tc := ⟨.hbm, 127, rfl⟩
abbrev main_v85 : Ref sig .tc := ⟨.hbm, 128, rfl⟩
abbrev main_c_16 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_17 : Ref sig .tc := ⟨.hbm, 133, rfl⟩
abbrev main_v89 : Ref sig .tc := ⟨.hbm, 134, rfl⟩
abbrev main_v90 : Ref sig .tc := ⟨.hbm, 135, rfl⟩
abbrev main_c_18 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_19 : Ref sig .tc := ⟨.hbm, 140, rfl⟩
abbrev main_v94 : Ref sig .tc := ⟨.hbm, 141, rfl⟩
abbrev main_v95 : Ref sig .tc := ⟨.hbm, 142, rfl⟩
abbrev main_c_20 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_21 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_22 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_23 : Ref sig .tc := ⟨.hbm, 166, rfl⟩
abbrev main_v113 : Ref sig .tc := ⟨.hbm, 167, rfl⟩
abbrev main_cst_24 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_25 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩

abbrev nD : Nat := 1
abbrev τ : Topo := Topo.v7x

variable {F : FTy → Type} [FloatOps F]
-- ==== InProj.lean ====
abbrev S8192x4096 : Shape := ⟨2, ![8192, 4096]⟩
abbrev S4096x20480 : Shape := ⟨2, ![4096, 20480]⟩
abbrev S8192x20480 : Shape := ⟨2, ![8192, 20480]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x20480, .f32⟩
  | .hbm, ⟨2, _⟩ => ⟨S4096x20480, .bf16⟩
  | .hbm, ⟨3, _⟩ => ⟨S8192x20480, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S4096x20480 : Shape := ⟨2, ![4096, 20480]⟩
abbrev S8192x20480 : Shape := ⟨2, ![8192, 20480]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x20480, .f32⟩
  | .hbm, ⟨2, _⟩ => ⟨S8192x4096, .f32⟩
  | .hbm, ⟨3, _⟩ => ⟨S8192x20480, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S8192x2048 : Shape := ⟨2, ![8192, 2048]⟩
abbrev S2048x4096 : Shape := ⟨2, ![2048, 4096]⟩
abbrev S8192x20480 : Shape := ⟨2, ![8192, 20480]⟩
abbrev S8192 : Shape := ⟨1, ![8192]⟩
abbrev S1x8192 : Shape := ⟨2, ![1, 8192]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .f32⟩
  | .hbm, ⟨3, _⟩ => ⟨S2048x4096, .f32⟩
  | .hbm, ⟨4, _⟩ => ⟨S8192x20480, .f32⟩
  | .hbm, ⟨5, _⟩ => ⟨S8192, .f32⟩
  | .hbm, ⟨6, _⟩ => ⟨S2048x4096, .bf16⟩
  | .hbm, ⟨7, _⟩ => ⟨S2048x4096, .bf16⟩
  | .hbm, ⟨8, _⟩ => ⟨S1x8192, .f32⟩
  | .hbm, ⟨9, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S8192x2048 : Shape := ⟨2, ![8192, 2048]⟩
abbrev S2048x4096 : Shape := ⟨2, ![2048, 4096]⟩
abbrev S8192x20480 : Shape := ⟨2, ![8192, 20480]⟩
abbrev S8192 : Shape := ⟨1, ![8192]⟩
abbrev S8192x4096 : Shape := ⟨2, ![8192, 4096]⟩
abbrev S4096 : Shape := ⟨1, ![4096]⟩
abbrev S1x4096 : Shape := ⟨2, ![1, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .f32⟩
  | .hbm, ⟨3, _⟩ => ⟨S2048x4096, .f32⟩
  | .hbm, ⟨4, _⟩ => ⟨S8192x20480, .f32⟩
  | .hbm, ⟨5, _⟩ => ⟨S8192, .f32⟩
  | .hbm, ⟨6, _⟩ => ⟨S8192x4096, .f32⟩
  | .hbm, ⟨7, _⟩ => ⟨S8192x4096, .f32⟩
  | .hbm, ⟨8, _⟩ => ⟨S4096, .f32⟩
  | .hbm, ⟨9, _⟩ => ⟨S4096, .f32⟩
  | .hbm, ⟨10, _⟩ => ⟨S8192x2048, .f32⟩
  | .hbm, ⟨11, _⟩ => ⟨S8192x4096, .f32⟩
  | .hbm, ⟨12, _⟩ => ⟨S8192x2048, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PeerQuery.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S4096x2048, .bf16⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQueryRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x4096, .f32⟩
  | .hbm, ⟨3, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LastNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Conv.lean ====
abbrev S8192x20480 : Shape := ⟨2, ![8192, 20480]⟩
abbrev S3x2048 : Shape := ⟨2, ![3, 2048]⟩
abbrev S8192x2048 : Shape := ⟨2, ![8192, 2048]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S8192x20480, .f32⟩
  | .hbm, ⟨1, _⟩ => ⟨S3x2048, .f32⟩
  | .hbm, ⟨2, _⟩ => ⟨S8192x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S8192x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8192x20480 : Shape := ⟨2, ![8192, 20480]⟩
abbrev S3x2048 : Shape := ⟨2, ![3, 2048]⟩
abbrev S8192x2048 : Shape := ⟨2, ![8192, 2048]⟩
abbrev S4x2048x2048 : Shape := ⟨3, ![4, 2048, 2048]⟩
abbrev S_ : Shape := ⟨0, ![]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x20480, .f32⟩
  | .hbm, ⟨1, _⟩ => ⟨S3x2048, .f32⟩
  | .hbm, ⟨2, _⟩ => ⟨S8192x2048, .f32⟩
  | .hbm, ⟨3, _⟩ => ⟨S4x2048x2048, .f32⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S4x2048x2048, .f32⟩
  | .hbm, ⟨8, _⟩ => ⟨S4x2048x2048, .f32⟩
  | .hbm, ⟨9, _⟩ => ⟨S_, .i32⟩
  | .hbm, ⟨10, _⟩ => ⟨S_, .f32⟩
  | .hbm, ⟨11, _⟩ => ⟨S4x2050x2048, .f32⟩
  | .hbm, ⟨12, _⟩ => ⟨S4x2048x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S8192x2048, .f32⟩
  | .hbm, ⟨37, _⟩ => ⟨S8192x2048, .bf16⟩
  | _, _ => ⟨S8192x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== PeerMix.lean ====
abbrev S8192x4096 : Shape := ⟨2, ![8192, 4096]⟩
abbrev S16384x4096 : Shape := ⟨2, ![16384, 4096]⟩
abbrev S8x128x8192 : Shape := ⟨3, ![8, 128, 8192]⟩
abbrev S8x1x8192 : Shape := ⟨3, ![8, 1, 8192]⟩
abbrev S512x4096 : Shape := ⟨2, ![512, 4096]⟩
abbrev S8x128x512 : Shape := ⟨3, ![8, 128, 512]⟩
abbrev S8x1x512 : Shape := ⟨3, ![8, 1, 512]⟩
abbrev S512x512 : Shape := ⟨2, ![512, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S16384x4096, .f32⟩
  | .hbm, ⟨2, _⟩ => ⟨S16384x4096, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x1x8192, .f32⟩
  | .hbm, ⟨8, _⟩ => ⟨S16384x4096, .bf16⟩
  | .hbm, ⟨9, _⟩ => ⟨S16384x4096, .bf16⟩
  | .hbm, ⟨10, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x1x512, .f32⟩
  | .local _ .vmem, ⟨10, _⟩ => ⟨S8x1x512, .f32⟩
  | .local _ .vmem, ⟨11, _⟩ => ⟨S512x4096, .f32⟩
  | .local _ .vmem, ⟨12, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 32], ![false, false]⟩

def k0_off1 (i : grid0.Coords) (c0_i32_4 : BitVec 32) : Fin 3 → Nat :=
  let c0_5 : Index := 0#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v9 : Index := Scalar.indexCast v8
  let c0_6 : Index := 0#32
  ![0, v9.toNat, 0]
def k0_off2 (i : grid0.Coords) (c0_i32_4 : BitVec 32) : Fin 3 → Nat :=
  let c1 : Index := 1#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v29 : Index := Scalar.indexCast v8
  let c0_19 : Index := 0#32
  ![1, v29.toNat, 0]
def k0_off3 (i : grid0.Coords) (c0_i32_4 : BitVec 32) : Fin 3 → Nat :=
  let c2 : Index := 2#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v50 : Index := Scalar.indexCast v8
  let c0_32 : Index := 0#32
  ![2, v50.toNat, 0]
def k0_off4 (i : grid0.Coords) (c0_i32_4 : BitVec 32) : Fin 3 → Nat :=
  let c3 : Index := 3#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v71 : Index := Scalar.indexCast v8
  let c0_45 : Index := 0#32
  ![3, v71.toNat, 0]
def k0_off5 (i : grid0.Coords) (c0_i32_4 : BitVec 32) : Fin 3 → Nat :=
  let c4 : Index := 4#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v92 : Index := Scalar.indexCast v8
  let c0_58 : Index := 0#32
  ![4, v92.toNat, 0]
def k0_off6 (i : grid0.Coords) (c0_i32_4 : BitVec 32) : Fin 3 → Nat :=
  let c5 : Index := 5#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v113 : Index := Scalar.indexCast v8
  let c0_71 : Index := 0#32
  ![5, v113.toNat, 0]
def k0_off7 (i : grid0.Coords) (c0_i32_4 : BitVec 32) : Fin 3 → Nat :=
  let c6 : Index := 6#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v134 : Index := Scalar.indexCast v8
  let c0_84 : Index := 0#32
  ![6, v134.toNat, 0]
def k0_off8 (i : grid0.Coords) (c0_i32_4 : BitVec 32) : Fin 3 → Nat :=
  let c7 : Index := 7#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v155 : Index := Scalar.indexCast v8
  let c0_97 : Index := 0#32
  ![7, v155.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S8x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PeerMixRefIdeal.lean ====
abbrev S8192x4096 : Shape := ⟨2, ![8192, 4096]⟩
abbrev S16384x4096 : Shape := ⟨2, ![16384, 4096]⟩
abbrev S8x128x8192 : Shape := ⟨3, ![8, 128, 8192]⟩
abbrev S8x1x8192 : Shape := ⟨3, ![8, 1, 8192]⟩
abbrev S8x128x1x8192 : Shape := ⟨4, ![8, 128, 1, 8192]⟩
abbrev S8x1x128x8192 : Shape := ⟨4, ![8, 1, 128, 8192]⟩
abbrev S8x128x128x8192 : Shape := ⟨4, ![8, 128, 128, 8192]⟩
abbrev S8x1x1x8192 : Shape := ⟨4, ![8, 1, 1, 8192]⟩
abbrev S_ : Shape := ⟨0, ![]⟩
abbrev S128x128x8192 : Shape := ⟨3, ![128, 128, 8192]⟩
abbrev S16384x8192 : Shape := ⟨2, ![16384, 8192]⟩
abbrev S8192x16384 : Shape := ⟨2, ![8192, 16384]⟩
abbrev S4096x16384 : Shape := ⟨2, ![4096, 16384]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16384x4096, .f32⟩
  | .hbm, ⟨2, _⟩ => ⟨S16384x4096, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x1x8192, .f32⟩
  | .hbm, ⟨8, _⟩ => ⟨S8x128x1x8192, .f32⟩
  | .hbm, ⟨9, _⟩ => ⟨S8x1x128x8192, .f32⟩
  | .hbm, ⟨10, _⟩ => ⟨S8x128x128x8192, .f32⟩
  | .hbm, ⟨11, _⟩ => ⟨S8x128x128x8192, .f32⟩
  | .hbm, ⟨12, _⟩ => ⟨S8x128x128x8192, .f32⟩
  | .hbm, ⟨13, _⟩ => ⟨S8x1x1x8192, .f32⟩
  | .hbm, ⟨14, _⟩ => ⟨S8x128x128x8192, .f32⟩
  | .hbm, ⟨15, _⟩ => ⟨S8x128x128x8192, .i1⟩
  | .hbm, ⟨16, _⟩ => ⟨S8x128x1x8192, .f32⟩
  | .hbm, ⟨17, _⟩ => ⟨S8x1x128x8192, .f32⟩
  | .hbm, ⟨18, _⟩ => ⟨S8x128x128x8192, .f32⟩
  | .hbm, ⟨19, _⟩ => ⟨S8x128x128x8192, .f32⟩
  | .hbm, ⟨20, _⟩ => ⟨S8x128x128x8192, .f32⟩
  | .hbm, ⟨21, _⟩ => ⟨S_, .f32⟩
  | .hbm, ⟨22, _⟩ => ⟨S_, .f32⟩
  | .hbm, ⟨23, _⟩ => ⟨S8x128x128x8192, .f32⟩
  | .hbm, ⟨24, _⟩ => ⟨S8x128x128x8192, .f32⟩
  | .hbm, ⟨25, _⟩ => ⟨S_, .f32⟩
  | .hbm, ⟨26, _⟩ => ⟨S128x128x8192, .f32⟩
  | .hbm, ⟨27, _⟩ => ⟨S16384x8192, .f32⟩
  | .hbm, ⟨28, _⟩ => ⟨S8192x16384, .f32⟩
  | .hbm, ⟨29, _⟩ => ⟨S8192x4096, .f32⟩
  | .hbm, ⟨30, _⟩ => ⟨S4096x16384, .f32⟩
  | .hbm, ⟨31, _⟩ => ⟨S8192x16384, .f32⟩
  | .hbm, ⟨32, _⟩ => ⟨S_, .f32⟩
  | .hbm, ⟨33, _⟩ => ⟨S8192x16384, .f32⟩
  | .hbm, ⟨34, _⟩ => ⟨S8192x16384, .f32⟩
  | .hbm, ⟨35, _⟩ => ⟨S8192x16384, .f32⟩
  | .hbm, ⟨36, _⟩ => ⟨S_, .f32⟩
  | .hbm, ⟨37, _⟩ => ⟨S8192x16384, .f32⟩
  | .hbm, ⟨38, _⟩ => ⟨S8192x16384, .f32⟩
  | .hbm, ⟨39, _⟩ => ⟨S8192x16384, .f32⟩
  | .hbm, ⟨40, _⟩ => ⟨S8192x16384, .f32⟩
  | .hbm, ⟨41, _⟩ => ⟨S8192x16384, .f32⟩
  | .hbm, ⟨42, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Projection.lean ====
/- The input projection: the tiled product of the normalised rows and the weight is the whole product. -/
module

public import proofs.«01_k».proof.Defs
public import proofs.«01_k».proof.Proof.Gen.InProjIdeal.Frame
public import proofs.«01_k».proof.Proof.Gen.InProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Product

open Cert.InProjIdeal Cert.InProjIdeal.Gen

variable (m : (ℓ : Loc nD τ sig) → Buf (Elt Ideal) ℓ)

/-- The reference's product of the rows `X` and the weight `W`. -/
abbrev whole (X : FVec Ideal S8192x4096 .bf16) (W : FVec Ideal S4096x20480 .f32) : FVec Ideal S8192x20480 .f32 :=
  Host.dotGeneral Cert.InProjRefIdeal.dot_S8192x4096_S4096x20480_S8192x20480_1_0_0_1_n_n none
    (extf .f32 X Cert.InProjRefIdeal.Gen.bitsLt_bf16_f32) W

/-- The three windows' block indices at a grid point: the rows move with the second coordinate, the weight's
    columns with the first, the result with both. -/
theorem block_index : ∀ t : Fin cfg0.N, win0_0.index t = ![(grid0.coords t 1).val, 0]
    ∧ win0_1.index t = ![0, (grid0.coords t 0).val]
    ∧ win0_2.index t = ![(grid0.coords t 1).val, (grid0.coords t 0).val] :=
  (by decide +kernel : ∀ t : Fin grid0.N, _)

/-- What a grid point stores at an element of its block is the whole product at the place of that element. -/
theorem point (c : Dev nD) (t : Fin cfg0.N) (y) : k0_pay1 (iblk m c 0 t) (iblk m c 1 t) y
    = whole (m ((c : Thread nD τ).loc main_arg0)) (m ((c : Thread nD τ).loc main_arg1))
        (((cfg0.win 2).blk t).view.emb y) := by
  pointwise [k0_pay1, whole]
  blk_point [iblk, V, block_index t]

/-- The result array after the run is the whole product of the two arguments. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProjIdeal.Product

/-- The kernel's input projection and the reference's, exact, give the same array. -/
theorem Cert.Proof.projection : Cert.algebraic_InProjIdeal_InProjRefIdeal (hInProjIdeal := Cert.InProjIdeal.Gen.facts)
    (hInProjRefIdeal := Cert.InProjRefIdeal.Gen.facts) := by
  pair_intro
  · run_from Cert.InProjIdeal.Gen.run_main m g
  · run_from Cert.InProjRefIdeal.Value.run m' g'
    exact (Cert.InProjIdeal.Product.final m c).symm

end
-- ==== Proof.Rows.lean ====
/- The routing and the softmax of one query row, on extended reals: no vectors, no program. -/
module

public import Idealize.ShloMosaic.PureOps.Ideal
public import Idealize.ShloMosaic.Lib.SortFacts

@[expose] public section

set_option maxRecDepth 16384

noncomputable section

open Idealize.ShloMosaic

namespace Cert.Rows

/-! ## The order of the blocks -/

/-- Block `a` is chosen before block `b`: its gate is larger, or they tie and its number is smaller. -/
def Beats {n : Nat} (g : Fin n → EReal) (a b : Fin n) : Prop := g b < g a ∨ (g a = g b ∧ a < b)

instance {n : Nat} (g : Fin n → EReal) (a b : Fin n) : Decidable (Beats g a b) := inferInstanceAs (Decidable (_ ∨ _))

/-- How many blocks are chosen before block `b`. -/
def place {n : Nat} (g : Fin n → EReal) (b : Fin n) : Nat := ∑ a : Fin n, if Beats g a b then 1 else 0

variable {n : Nat} (g : Fin n → EReal)

/-- There are no more than all blocks before one. -/
theorem place_le (b : Fin n) : place g b ≤ n := by
  have := Finset.sum_le_card_nsmul (Finset.univ : Finset (Fin n)) (fun a => if Beats g a b then 1 else 0) 1
    (fun a _ => by split <;> omega)
  simpa [place] using this

/-- No two blocks are each chosen before the other. -/
theorem Beats.asymm {a b : Fin n} (h : Beats g a b) : ¬ Beats g b a := by
  rcases h with h | ⟨h, h'⟩ <;> rintro (k | ⟨k, k'⟩)
  · exact lt_asymm h k
  · exact (ne_of_lt h) k
  · exact (ne_of_lt k) h
  · exact lt_asymm h' k'

/-- Of two blocks one is chosen before the other. -/
theorem beats_total {a b : Fin n} (hne : a ≠ b) : Beats g a b ∨ Beats g b a := by
  rcases lt_trichotomy (g a) (g b) with h | h | h
  · exact .inr (.inl h)
  · rcases lt_or_gt_of_ne hne with k | k
    · exact .inl (.inr ⟨h, k⟩)
    · exact .inr (.inr ⟨h.symm, k⟩)
  · exact .inl (.inl h)

/-- The order is transitive. -/
theorem Beats.trans {a b c : Fin n} (h : Beats g a b) (k : Beats g b c) : Beats g a c := by
  rcases h with h | ⟨h, h'⟩ <;> rcases k with k | ⟨k, k'⟩
  · exact .inl (k.trans h)
  · exact .inl (k ▸ h)
  · exact .inl (h ▸ k)
  · exact .inr ⟨h.trans k, h'.trans k'⟩

/-- Sorting positions in their own order by the gate alone settles ties as the order does. -/
theorem sort_ties (l : List (Fin n)) (hl : l.Pairwise (· < ·)) :
    stableSort (fun a b => decide (g b < g a)) l = stableSort (fun a b => decide (Beats g a b)) l := by
  induction l with
  | nil => rfl
  | cons a l ih =>
    obtain ⟨ha, hl⟩ := List.pairwise_cons.1 hl
    simp only [stableSort]
    rw [ih hl]
    refine insertBefore_congr _ _ a _ fun b hb => ?_
    have hab : a < b := ha b ((perm_stableSort _ l).mem_iff.1 hb)
    refine decide_eq_decide.2 ⟨.inl, ?_⟩
    rintro (h | ⟨_, h⟩)
    · exact h
    · exact absurd hab (lt_asymm h)

/-- The block that a descending stable sort of the gate puts at position `k`. -/
def chosen (k : Fin n) : Fin n := sortedFrom (fun a b => decide (g b < g a)) k

/-- It is the sort by the order. -/
theorem chosen_eq (k : Fin n) : chosen g k = sortedFrom (fun a b => decide (Beats g a b)) k := by
  have h : sortPositions n (fun a b => decide (g b < g a)) = sortPositions n (fun a b => decide (Beats g a b)) :=
    sort_ties g _ (List.pairwise_lt_finRange n)
  unfold chosen sortedFrom
  simp only [List.get_eq_getElem, Fin.val_cast, h]

/-- An earlier position holds a block chosen before that of a later position. -/
theorem chosen_beats {i j : Fin n} : Beats g (chosen g i) (chosen g j) ↔ i < j := by
  have key : ∀ i j : Fin n, i < j → Beats g (chosen g i) (chosen g j) := by
    intro i j hij
    have h := sortedFrom_noInversion (fun a b => decide (Beats g a b)) (fun a b => decide (Beats g a b))
      (fun a b h => decide_eq_false (Beats.asymm g (of_decide_eq_true h))) (fun a b h => h)
      (fun a b c hab hbc => by
        refine decide_eq_false fun hac => ?_
        have hab := of_decide_eq_false hab
        have hbc := of_decide_eq_false hbc
        by_cases e : a = b
        · subst e; exact hbc hac
        · have hba := (beats_total g e).resolve_left hab
          exact hbc (hba.trans g hac)) i j hij
    have h := of_decide_eq_false h
    rw [← chosen_eq, ← chosen_eq] at h
    refine ((beats_total g fun e => ?_).resolve_right h)
    rw [chosen_eq, chosen_eq] at e
    exact hij.ne (sortedFrom_injective _ e)
  refine ⟨fun h => ?_, key i j⟩
  rcases lt_trichotomy i j with k | k | k
  · exact k
  · subst k; exact absurd h (h.asymm g)
  · exact absurd h ((key j i k).asymm g)

/-- The block at position `k` has `k` blocks before it. -/
theorem place_chosen (k : Fin n) : place g (chosen g k) = k.val := by
  have hb : Function.Bijective (chosen g) :=
    Finite.injective_iff_bijective.1 (sortedFrom_injective _)
  unfold place
  rw [← hb.sum_comp fun a => if Beats g a (chosen g k) then 1 else 0]
  simp only [chosen_beats]
  simp [Finset.sum_boole, Fin.card_Iio, Finset.filter_gt_eq_Iio]

/-- Position `k` holds block `b` exactly when `b` has `k` blocks before it. -/
theorem chosen_eq_iff (k : Fin n) (b : Fin n) : chosen g k = b ↔ place g b = k.val := by
  refine ⟨fun h => h ▸ place_chosen g k, fun h => ?_⟩
  obtain ⟨m, rfl⟩ := sortedFrom_surjective (fun a b => decide (g b < g a)) b
  have : place g (chosen g m) = k.val := h
  rw [place_chosen] at this
  rw [← Fin.ext this]; rfl

/-! ## A row of logits -/

section Softmax

variable {X ι : Type} [Fintype X] [Fintype ι] (S : X → EReal) (A : X → Prop) [DecidablePred A]

/-- The largest score of the keys that the row may see. -/
def peak : EReal := Finset.univ.sup fun x => if A x then S x else ⊥

/-- The exponential of a seen key's score against the largest, nothing for the others. -/
def weight (x : X) : EReal := if A x then Ideal.exp (S x - peak S A) else 0

/-- The sum of the weights. -/
def total : EReal := ∑ x, weight S A x

/-- A listing `l` of logits over places `ι` that holds each seen key's score once and `−∞` elsewhere. -/
structure Lays (l : ι → EReal) (e : ι → X) (live : ι → Prop) : Prop where
  dead : ∀ t, ¬ live t → l t = ⊥
  score : ∀ t, live t → l t = S (e t)
  seen : ∀ t, live t → A (e t)
  once : ∀ t t', live t → live t' → e t = e t' → t = t'
  every : ∀ x, A x → ∃ t, live t ∧ e t = x

variable {S A} {l : ι → EReal} {e : ι → X} {live : ι → Prop}

/-- A sum over the live places is the sum over the seen keys. -/
theorem Lays.sum [DecidablePred live] (h : Lays S A l e live) (φ : X → EReal) :
    (∑ t, if live t then φ (e t) else 0) = ∑ x, if A x then φ x else 0 := by
  rw [← Finset.sum_filter, ← Finset.sum_filter]
  refine Finset.sum_nbij e (fun t ht => ?_) (fun t ht t' ht' => ?_) (fun x hx => ?_) (fun t _ => rfl)
  · simpa using h.seen t (by simpa using ht)
  · exact h.once t t' (by simpa using ht) (by simpa using ht')
  · obtain ⟨t, ht, rfl⟩ := h.every x (by simpa using hx)
    exact ⟨t, by simpa using ht, rfl⟩

/-- The largest logit is the largest seen score. -/
theorem Lays.peak (h : Lays S A l e live) : Finset.univ.sup l = peak S A := by
  classical
  refine le_antisymm (Finset.sup_le fun t _ => ?_) (Finset.sup_le fun x _ => ?_)
  · by_cases ht : live t
    · have := Finset.le_sup (f := fun x => if A x then S x else ⊥) (Finset.mem_univ (e t))
      rw [h.score t ht]
      simpa [Rows.peak, h.seen t ht] using this
    · rw [h.dead t ht]; exact bot_le
  · by_cases hx : A x
    · obtain ⟨t, ht, rfl⟩ := h.every x hx
      have := Finset.le_sup (f := l) (Finset.mem_univ t)
      rw [h.score t ht] at this
      simpa [hx] using this
    · simp [hx]

/-- Each place's exponential is its key's weight, or nothing. -/
theorem Lays.exp [DecidablePred live] (h : Lays S A l e live) (t : ι) :
    Ideal.exp (l t - Finset.univ.sup l) = if live t then weight S A (e t) else 0 := by
  rw [h.peak]
  split
  · next ht => rw [h.score t ht, weight, if_pos (h.seen t ht)]
  · next ht => rw [h.dead t ht, EReal.bot_sub]; rfl

/-- The exponentials sum to the sum of the weights. -/
theorem Lays.exp_sum (h : Lays S A l e live) : ∑ t, Ideal.exp (l t - Finset.univ.sup l) = total S A := by
  classical
  simp only [h.exp]
  rw [h.sum (weight S A)]
  refine Finset.sum_congr rfl fun x _ => ?_
  unfold weight; split <;> rfl

/-- The exponentials times the values sum to the weighted sum of the values. -/
theorem Lays.exp_mul_sum (h : Lays S A l e live) (v : X → EReal) (u : ι → EReal) (hu : ∀ t, live t → u t = v (e t)) :
    ∑ t, Ideal.exp (l t - Finset.univ.sup l) * u t = ∑ x, weight S A x * v x := by
  classical
  have : ∀ t, Ideal.exp (l t - Finset.univ.sup l) * u t = if live t then weight S A (e t) * v (e t) else 0 := by
    intro t; rw [h.exp]; split
    · next ht => rw [hu t ht]
    · rw [zero_mul]
  simp only [this]
  rw [h.sum fun x => weight S A x * v x]
  refine Finset.sum_congr rfl fun x _ => ?_
  unfold weight; split <;> simp

variable (hS : ∀ x, A x → ∃ r : ℝ, S x = r) (hA : ∃ x, A x)
include hS hA

/-- The largest seen score is a real number. -/
theorem peak_real : ∃ r : ℝ, peak S A = r := by
  have hlt : peak S A < ⊤ := by
    unfold peak
    refine (Finset.sup_lt_iff (by exact bot_lt_top)).2 fun x _ => ?_
    split
    · next hx => obtain ⟨r, hr⟩ := hS x hx; rw [hr]; exact EReal.coe_lt_top r
    · exact bot_lt_top
  have hgt : ⊥ < peak S A := by
    obtain ⟨x, hx⟩ := hA
    obtain ⟨r, hr⟩ := hS x hx
    have := Finset.le_sup (f := fun x => if A x then S x else ⊥) (Finset.mem_univ x)
    refine lt_of_lt_of_le ?_ this
    simp only [hx, if_true, hr]; exact EReal.bot_lt_coe r
  exact ⟨(peak S A).toReal, (EReal.coe_toReal hlt.ne hgt.ne').symm⟩

/-- Every weight is a real number, nonnegative, and positive for a seen key. -/
theorem weight_real (x : X) : ∃ r : ℝ, weight S A x = r ∧ 0 ≤ r ∧ (A x → 0 < r) := by
  obtain ⟨p, hp⟩ := peak_real hS hA
  unfold weight
  split
  · next hx =>
    obtain ⟨s, hs⟩ := hS x hx
    exact ⟨Real.exp (s - p), by rw [hs, hp, ← EReal.coe_sub]; rfl, (Real.exp_pos _).le, fun _ => Real.exp_pos _⟩
  · next hx => exact ⟨0, by simp, le_rfl, fun h => absurd h hx⟩

/-- The sum of the weights is a positive real number. -/
theorem total_real : ∃ r : ℝ, total S A = r ∧ 0 < r := by
  choose w hw h0 hpos using weight_real hS hA
  refine ⟨∑ x, w x, ?_, ?_⟩
  · unfold total; simp only [hw]; exact (map_sum (⟨⟨Real.toEReal, EReal.coe_zero⟩, EReal.coe_add⟩ : ℝ →+ EReal) w _).symm
  · obtain ⟨x, hx⟩ := hA
    exact Finset.sum_pos' (fun y _ => h0 y) ⟨x, Finset.mem_univ x, hpos x hx⟩

/-- Dividing the weighted sum is weighting by the divided weights. -/
theorem div_sum (v : X → EReal) :
    Ideal.div (∑ x, weight S A x * v x) (total S A) = ∑ x, Ideal.div (weight S A x) (total S A) * v x := by
  obtain ⟨z, hz, hpos⟩ := total_real hS hA
  rw [hz]
  simp only [Ideal.div_coe hpos.ne']
  have hd : ∀ f : X → EReal, (∑ x, f x) * ((1 / z : ℝ) : EReal) = ∑ x, f x * ((1 / z : ℝ) : EReal) := by
    intro f
    classical
    refine Finset.induction_on (Finset.univ : Finset X) (by simp) fun a s ha ih => ?_
    rw [Finset.sum_insert ha, Finset.sum_insert ha, ← ih]
    exact EReal.right_distrib_of_nonneg_of_ne_top (by exact_mod_cast (one_div_pos.2 hpos).le) (EReal.coe_ne_top _) _ _
  rw [hd]
  exact Finset.sum_congr rfl fun x _ => mul_right_comm _ _ _

/-- Mixing the values by the exponentials divided by their sum is dividing the weighted sum of the values. -/
theorem Lays.mix_div (h : Lays S A l e live) (v : X → EReal) (u : ι → EReal) (hu : ∀ t, live t → u t = v (e t)) :
    ∑ t, Ideal.div (Ideal.exp (l t - Finset.univ.sup l)) (∑ t, Ideal.exp (l t - Finset.univ.sup l)) * u t
      = Ideal.div (∑ x, weight S A x * v x) (total S A) := by
  classical
  rw [h.exp_sum, div_sum hS hA]
  obtain ⟨z, hz, hpos⟩ := total_real hS hA
  have : ∀ t, Ideal.div (Ideal.exp (l t - Finset.univ.sup l)) (total S A) * u t
      = if live t then Ideal.div (weight S A (e t)) (total S A) * v (e t) else 0 := by
    intro t; rw [h.exp]; split
    · next ht => rw [hu t ht]
    · rw [hz, Ideal.div_coe hpos.ne', zero_mul, zero_mul]
  simp only [this]
  rw [h.sum fun x => Ideal.div (weight S A x) (total S A) * v x]
  refine Finset.sum_congr rfl fun x _ => ?_
  split
  · rfl
  · next hx => rw [weight, if_neg hx, hz, Ideal.div_coe hpos.ne', zero_mul, zero_mul]

end Softmax

/-! ## One head's attention -/

/-- The row of a block's element. -/
abbrev row (i : Fin 8) (r : Fin 256) : Fin 2048 := ⟨256 * i.val + r.val, by omega⟩

/-- The keys that query `r` of block `i` sees: its own block up to itself, and the past blocks chosen among the three first. -/
def Seen (g : Fin 8 → EReal) (i : Fin 8) (r : Fin 256) (x : Fin 8 × Fin 256) : Prop :=
  (x.1 = i ∧ x.2 ≤ r) ∨ (x.1 < i ∧ place g x.1 < 3)

instance (g : Fin 8 → EReal) (i : Fin 8) (r : Fin 256) : DecidablePred (Seen g i r) :=
  fun _ => inferInstanceAs (Decidable (_ ∨ _))

variable (q k v : Fin 2048 → Fin 128 → EReal)

/-- The mean key of block `j`. -/
def means (j : Fin 8) (d : Fin 128) : EReal :=
  Ideal.div (∑ c : Fin 256, k (row j c) d) (Ideal.ofBits .f32 0x43800000#32)

/-- The gate of query `r` of block `i`: its product with each past block's mean key. -/
def gates (i : Fin 8) (r : Fin 256) (j : Fin 8) : EReal :=
  if j < i then ∑ d : Fin 128, q (row i r) d * means k j d else ⊥

/-- The scaled product of query `r` of block `i` with the key `x`. -/
def score (i : Fin 8) (r : Fin 256) (x : Fin 8 × Fin 256) : EReal :=
  (∑ d : Fin 128, q (row i r) d * k (row x.1 x.2) d) * Ideal.ofBits .f32 0x3DB504F3#32

/-- The attention of query `r` of block `i`: the seen keys' values weighted by the softmax of their scores. -/
def attend (i : Fin 8) (r : Fin 256) (d : Fin 128) : EReal :=
  Ideal.div (∑ x, weight (score q k i r) (Seen (gates q k i r) i r) x * v (row x.1 x.2) d)
    (total (score q k i r) (Seen (gates q k i r) i r))

/-- Logits listed block by block up to the query's own, each past block's with a bias that is `0` when it is chosen. -/
theorem lays_blocks (S : Fin 8 × Fin 256 → EReal) (g : Fin 8 → EReal) (i : Fin 8) (r : Fin 256)
    (l : Fin (256 * (i.val + 1)) → EReal) (e : Fin (256 * (i.val + 1)) → Fin 8 × Fin 256)
    (he : ∀ t, e t = (⟨t.val / 256, by omega⟩, ⟨t.val % 256, by omega⟩))
    (hl : ∀ t, l t = if (e t).1 < i then S (e t) + (if place g (e t).1 < 3 then 0 else ⊥) else if (e t).2 ≤ r then S (e t) else ⊥) :
    Lays S (Seen g i r) l e fun t => Seen g i r (e t) := by
  have hle : ∀ t, (e t).1 ≤ i := fun t => by rw [he]; exact Fin.le_def.2 (by show t.val / 256 ≤ i.val; omega)
  refine ⟨fun t ht => ?_, fun t ht => ?_, fun t ht => ht, fun t t' _ _ h => ?_, fun x hx => ?_⟩
  · rw [hl]
    split
    · next h => rw [if_neg fun h' => ht (.inr ⟨h, h'⟩), EReal.add_bot]
    · next h => rw [if_neg fun h' => ht (.inl ⟨le_antisymm (hle t) (not_lt.1 h), h'⟩)]
  · rw [hl]
    rcases ht with ⟨h, h'⟩ | ⟨h, h'⟩
    · rw [if_neg h.not_lt, if_pos h']
    · rw [if_pos h, if_pos h', add_zero]
  · rw [he, he] at h
    have h1 := congrArg (fun x => x.1.val) h
    have h2 := congrArg (fun x => x.2.val) h
    simp only at h1 h2
    exact Fin.ext (by omega)
  · have hxi : x.1.val ≤ i.val := by
      rcases hx with ⟨h, _⟩ | ⟨h, _⟩
      · exact (congrArg Fin.val h).le
      · exact (Fin.lt_def.1 h).le
    have hex : e ⟨256 * x.1.val + x.2.val, by omega⟩ = x := by
      rw [he]
      refine Prod.ext (Fin.ext ?_) (Fin.ext ?_)
      · show (256 * x.1.val + x.2.val) / 256 = x.1.val; omega
      · show (256 * x.1.val + x.2.val) % 256 = x.2.val; omega
    exact ⟨⟨256 * x.1.val + x.2.val, by omega⟩, by rw [hex]; exact hx, hex⟩

/-- Logits listed own block first, then the three chosen blocks, those not in the past masked. -/
theorem lays_chosen (S : Fin 8 × Fin 256 → EReal) (g : Fin 8 → EReal) (i : Fin 8) (r : Fin 256)
    (l : Fin 1024 → EReal) (sel : Fin 3 → Fin 8) (hsel : ∀ n j, sel n = j ↔ place g j = n.val)
    (e : Fin 1024 → Fin 8 × Fin 256)
    (he : ∀ t, e t = if h : t.val < 256 then (i, ⟨t.val, h⟩)
      else (sel ⟨(t.val - 256) / 256, by omega⟩, ⟨(t.val - 256) % 256, by omega⟩))
    (hl : ∀ t, l t = if t.val < 256 then (if (e t).2 ≤ r then S (e t) else ⊥) else if (e t).1 < i then S (e t) else ⊥) :
    Lays S (Seen g i r) l e fun t => if t.val < 256 then (e t).2 ≤ r else (e t).1 < i := by
  have h0 : ∀ t : Fin 1024, t.val < 256 → (e t).1 = i ∧ (e t).2.val = t.val := fun t ht => by
    rw [he, dif_pos ht]; exact ⟨rfl, rfl⟩
  have h1 : ∀ t : Fin 1024, ¬ t.val < 256 → (e t).1 = sel ⟨(t.val - 256) / 256, by omega⟩ ∧ (e t).2.val = (t.val - 256) % 256 :=
    fun t ht => by rw [he, dif_neg ht]; exact ⟨rfl, rfl⟩
  refine ⟨fun t ht => ?_, fun t ht => ?_, fun t ht => ?_, fun t t' ht ht' h => ?_, fun x hx => ?_⟩
  · rw [hl]
    split_ifs at ht ⊢ <;> first | rfl | contradiction
  · rw [hl]
    split_ifs at ht ⊢ <;> first | rfl | contradiction
  · split_ifs at ht with hc
    · exact .inl ⟨(h0 t hc).1, ht⟩
    · refine .inr ⟨ht, ?_⟩
      have := (hsel _ _).1 (h1 t hc).1.symm
      rw [this]; show (t.val - 256) / 256 < 3; omega
  · have e1 := congrArg Prod.fst h
    have e2 : (e t).2.val = (e t').2.val := congrArg (fun x => x.2.val) h
    split_ifs at ht ht' with hc hc' hc'
    · rw [(h0 t hc).2, (h0 t' hc').2] at e2; exact Fin.ext e2
    · rw [← e1, (h0 t hc).1] at ht'; exact absurd ht' (lt_irrefl _)
    · rw [e1, (h0 t' hc').1] at ht; exact absurd ht (lt_irrefl _)
    · have p := (hsel _ _).1 (h1 t hc).1.symm
      have p' := (hsel _ _).1 (h1 t' hc').1.symm
      rw [e1, p'] at p
      rw [(h1 t hc).2, (h1 t' hc').2] at e2
      have p : (t'.val - 256) / 256 = (t.val - 256) / 256 := p
      exact Fin.ext (by omega)
  · rcases hx with ⟨hx, hr⟩ | ⟨hx, hp⟩
    · have hc : (⟨x.2.val, by omega⟩ : Fin 1024).val < 256 := x.2.isLt
      have hex : e ⟨x.2.val, by omega⟩ = x := by rw [he, dif_pos hc]; exact Prod.ext hx.symm rfl
      refine ⟨⟨x.2.val, by omega⟩, ?_, hex⟩
      rw [if_pos hc, hex]; exact hr
    · have hc : ¬ (⟨256 + 256 * place g x.1 + x.2.val, by omega⟩ : Fin 1024).val < 256 := by
        show ¬ 256 + 256 * place g x.1 + x.2.val < 256; omega
      have hex : e ⟨256 + 256 * place g x.1 + x.2.val, by omega⟩ = x := by
        rw [he, dif_neg hc]
        refine Prod.ext ((hsel _ _).2 ?_) (Fin.ext ?_)
        · show place g x.1 = (256 + 256 * place g x.1 + x.2.val - 256) / 256; omega
        · show (256 + 256 * place g x.1 + x.2.val - 256) % 256 = x.2.val; omega
      refine ⟨_, ?_, hex⟩
      rw [if_neg hc, hex]; exact hx

end Cert.Rows
-- ==== Proof.Blocks.lean ====
/- The kernel's eight query blocks as one vector program in the block's number, and its elements. -/
module

public import proofs.«01_k».proof.Defs
public import proofs.«01_k».proof.Proof.Gen.MobaIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MobaIdeal.Blocks

open Cert.MobaIdeal Cert.MobaIdeal.Gen

/-- One row of logits per query: the key blocks `0 … n` laid side by side. -/
abbrev Wide (n : Nat) : Shape := ⟨2, ![256, 256 * (n + 1)]⟩

/-- The rows of the key blocks `0 … n`. -/
abbrev Tall (n : Nat) : Shape := ⟨2, ![256 * (n + 1), 128]⟩

/-- What the shapes of block `n` must satisfy: the products contract, a row folds and a column spreads. -/
structure Fits (n : Nat) : Prop where
  score : DotDims.WF S256x128 (Tall n) (Wide n) [1] [1] [0] [0] [] []
  mix : DotDims.WF (Wide n) (Tall n) S256x128 [1] [0] [0] [1] [] []
  fold : (Wide n).Reduces [1] S256
  spread : S256x1.Broadcasts (Wide n)

/-- What the cuts of the logits into key blocks must satisfy. -/
structure Cuts (n : Nat) : Prop where
  part : ∀ j : Fin (n + 1), (Wide n).Slices ![0, 256 * j.val] S256x256
  column : ∀ j : Fin (n + 1), S256x8.Slices ![0, j.val] S256x1
  tile : Shape.Concatenates (List.ofFn fun _ : Fin (n + 1) => S256x256) (Wide n) 1

theorem fits (n : Fin 8) : Fits n := by
  revert n
  have : ∀ n : Fin 8, DotDims.WF S256x128 (Tall n) (Wide n) [1] [1] [0] [0] [] [] ∧
    DotDims.WF (Wide n) (Tall n) S256x128 [1] [0] [0] [1] [] [] ∧ (Wide n).Reduces [1] S256 ∧
    S256x1.Broadcasts (Wide n) := by decide +kernel
  exact fun n => ⟨(this n).1, (this n).2.1, (this n).2.2.1, (this n).2.2.2⟩

variable {F : FTy → Type} [FloatOps F]

/-- The gate's row: the query against the mean key of each block, `−∞` from the query's own block on. -/
def gate (n : Nat) (means : FVec F S8x128 .f32) (q : FVec F S256x128 .f32) : FVec F S256x8 .f32 :=
  select (cmpi .slt (iota .tc S256x8 32 [1] iota_S256x8_d1_w32) (broadcast S256x8 (BitVec.ofNat 32 n)))
    (matmul dot_S256x128_S8x128_S256x8_1_1_0_0_n_n (some .fp32) q means (constant S256x8 .f32 0x00000000#32))
    (broadcast S256x8 (Scalar.ofBits .f32 0xFF800000#32 : F .f32))

/-- Whether block `j` comes before each block in the order of the gate `g`, ties going to the smaller number. -/
def ahead (g : FVec F S256x8 .f32) (j : Nat) (h : S256x8.Slices ![0, j] S256x1) : IVec S256x8 32 :=
  extui 32 (ori (cmpf .ogt (broadcastTo S256x8 (extractStridedSlice S256x1 ![0, j] g h) broadcasts_S256x1_S256x8) g)
    (andi (cmpf .oeq (broadcastTo S256x8 (extractStridedSlice S256x1 ![0, j] g h) broadcasts_S256x1_S256x8) g)
      (cmpi .sgt (iota .tc S256x8 32 [1] iota_S256x8_d1_w32) (broadcast S256x8 (BitVec.ofNat 32 j))))) natLt_1_32

/-- The number of blocks `0 … n−1` before each block. -/
def rank (g : FVec F S256x8 .f32) : (n : Nat) → (∀ j < n, S256x8.Slices ![0, j] S256x1) → IVec S256x8 32
  | 0, _ => broadcast S256x8 0#32
  | n + 1, h => addi (rank g n fun j hj => h j (by omega)) (ahead g n (h n (by omega)))

/-- What is added to the logits of each block: nothing for a chosen past block, `−∞` for the others. -/
def bias (n : Nat) (g : FVec F S256x8 .f32) (h : Cuts n) : FVec F S256x8 .f32 :=
  select (andi (cmpi .slt (rank g n fun j hj => h.column ⟨j, by omega⟩) (broadcast S256x8 3#32))
      (cmpi .slt (iota .tc S256x8 32 [1] iota_S256x8_d1_w32) (broadcast S256x8 (BitVec.ofNat 32 n))))
    (broadcast S256x8 (Scalar.ofBits .f32 0x00000000#32 : F .f32)) (broadcast S256x8 (Scalar.ofBits .f32 0xFF800000#32 : F .f32))

/-- The scaled products of the queries and the keys of the blocks `0 … n`. -/
def scores (n : Nat) (h : Fits n) (k : FVec F (Tall n) .bf16) (q : FVec F S256x128 .f32) : FVec F (Wide n) .f32 :=
  mulf (matmul ⟨[1], [1], [0], [0], [], [], h.score⟩ none (truncf .bf16 q bitsLt_bf16_f32) k
      (constant (Wide n) .f32 0x00000000#32))
    (broadcast (Wide n) (Scalar.ofBits .f32 0x3DB504F3#32 : F .f32))

/-- The logits of one key block: its scores with the bias, or under the causal mask in the query's own block. -/
def part (n : Nat) (h : Cuts n) (s : FVec F (Wide n) .f32) (b : FVec F S256x8 .f32) (j : Fin (n + 1)) : FVec F S256x256 .f32 :=
  if j.val < n then
    addf (extractStridedSlice S256x256 ![0, 256 * j.val] s (h.part j))
      (broadcastTo S256x256 (extractStridedSlice S256x1 ![0, j.val] b (h.column j)) broadcasts_S256x1_S256x256)
  else
    select (cmpi .sle (iota .tc S256x256 32 [1] iota_S256x256_d1_w32) (iota .tc S256x256 32 [0] iota_S256x256_d0_w32))
      (extractStridedSlice S256x256 ![0, 256 * j.val] s (h.part j)) (broadcast S256x256 (Scalar.ofBits .f32 0xFF800000#32 : F .f32))

/-- The row of logits. -/
def logits (n : Nat) (h : Cuts n) (p : Fin (n + 1) → FVec F S256x256 .f32) : FVec F (Wide n) .f32 :=
  concatenate (Wide n) 1 (List.ofFn fun j => ⟨S256x256, p j⟩) (by rw [List.map_ofFn]; exact h.tile)

/-- The exponentials of the logits against their row's maximum. -/
def weights (n : Nat) (h : Fits n) (l : FVec F (Wide n) .f32) : FVec F (Wide n) .f32 :=
  exp (subf l (broadcastTo (Wide n) (shapeCast S256x1
    (multiReduction .maximumf [1] S256 l 0xFF800000#32 h.fold (.inl rfl) rfl) shapeCasts_S256_S256x1) h.spread))

/-- The mixed values: the weighted sum of the values over the sum of the weights. -/
def mixed (n : Nat) (h : Fits n) (v : FVec F (Tall n) .bf16) (w : FVec F (Wide n) .f32) : FVec F S256x128 .bf16 :=
  truncf .bf16 (divf
    (matmul ⟨[1], [0], [0], [1], [], [], h.mix⟩ none (truncf .bf16 w bitsLt_bf16_f32) v
      (constant S256x128 .f32 0x00000000#32))
    (broadcastTo S256x128 (shapeCast S256x1 (multiReduction .add [1] S256 w 0x00000000#32 h.fold (.inl rfl) rfl)
      shapeCasts_S256_S256x1) broadcasts_S256x1_S256x128)) bitsLt_bf16_f32

/-- One query block's result from the key blocks, the values, the mean keys and the queries. -/
def block (n : Nat) (h : Fits n) (h' : Cuts n) (k v : FVec F (Tall n) .bf16) (means : FVec F S8x128 .f32)
    (q : FVec F S256x128 .f32) : FVec F S256x128 .bf16 :=
  mixed n h v (weights n h (logits n h' (part n h' (scores n h k q) (bias n (gate n means q) h'))))

theorem cuts (n : Fin 8) (h : n ≠ 0) : Cuts n := by
  revert n
  have : ∀ n : Fin 8, n ≠ 0 → (∀ j : Fin (n.val + 1), (Wide n).Slices ![0, 256 * j.val] S256x256) ∧
    (∀ j : Fin (n.val + 1), S256x8.Slices ![0, j.val] S256x1) ∧
    Shape.Concatenates (List.ofFn fun _ : Fin (n.val + 1) => S256x256) (Wide n) 1 := by decide +kernel
  exact fun n h => ⟨(this n h).1, (this n h).2.1, (this n h).2.2⟩

theorem piece1 (x0 x1 x2 : Vec F S2048x128 .f32) :
    k0_pay11 (k0_pay9 (k0_pay72 x0 x1 x2) (k0_pay73 x0 x1 x2) (k0_pay70 x0 x1 x2) (k0_pay74 x0 x1 x2) (View.ld x0 r0_2) (k0_pay75 x0 x1 x2)) (k0_pay10 (k0_pay73 x0 x1 x2) (k0_pay70 x0 x1 x2) (k0_pay74 x0 x1 x2) (View.ld x0 r0_2) (k0_pay75 x0 x1 x2)) =
    block 1 (fits 1) (cuts 1 (by decide)) (extractStridedSlice S512x128 ![0, 0] (k0_pay71 x0 x1 x2) slices_S2048x128_o0_0_S512x128) (extractStridedSlice S512x128 ![0, 0] (k0_pay72 x0 x1 x2) slices_S2048x128_o0_0_S512x128) (k0_pay73 x0 x1 x2) (View.ld x0 r0_2) := rfl

theorem piece2 (x0 x1 x2 : Vec F S2048x128 .f32) :
    k0_pay15 (k0_pay72 x0 x1 x2) (k0_pay74 x0 x1 x2) (k0_pay12 (k0_pay71 x0 x1 x2) (View.ld x0 r0_3)) (k0_pay13 (k0_pay73 x0 x1 x2) (k0_pay70 x0 x1 x2) (View.ld x0 r0_3)) (Scalar.ofBits .f32 0xFF800000#32) (k0_pay14 (F := F)) =
    block 2 (fits 2) (cuts 2 (by decide)) (extractStridedSlice S768x128 ![0, 0] (k0_pay71 x0 x1 x2) slices_S2048x128_o0_0_S768x128) (extractStridedSlice S768x128 ![0, 0] (k0_pay72 x0 x1 x2) slices_S2048x128_o0_0_S768x128) (k0_pay73 x0 x1 x2) (View.ld x0 r0_3) := rfl

theorem piece3 (x0 x1 x2 : Vec F S2048x128 .f32) :
    k0_pay23 (k0_pay72 x0 x1 x2) (k0_pay22 (k0_pay70 x0 x1 x2) (k0_pay74 x0 x1 x2) (k0_pay16 (k0_pay71 x0 x1 x2) (View.ld x0 r0_4)) (k0_pay17 (k0_pay73 x0 x1 x2) (k0_pay70 x0 x1 x2) (View.ld x0 r0_4)) k0_pay18 (k0_pay20 (k0_pay73 x0 x1 x2) (k0_pay70 x0 x1 x2) (View.ld x0 r0_4)) (k0_pay21 (k0_pay73 x0 x1 x2) (k0_pay70 x0 x1 x2) (View.ld x0 r0_4))) =
    block 3 (fits 3) (cuts 3 (by decide)) (extractStridedSlice S1024x128 ![0, 0] (k0_pay71 x0 x1 x2) slices_S2048x128_o0_0_S1024x128) (extractStridedSlice S1024x128 ![0, 0] (k0_pay72 x0 x1 x2) slices_S2048x128_o0_0_S1024x128) (k0_pay73 x0 x1 x2) (View.ld x0 r0_4) := rfl

theorem piece4 (x0 x1 x2 : Vec F S2048x128 .f32) :
    k0_pay37 (k0_pay72 x0 x1 x2) (k0_pay32 (k0_pay70 x0 x1 x2) (k0_pay76 x0 x1 x2) (k0_pay77 x0 x1 x2) (k0_pay78 x0 x1 x2) (k0_pay79 x0 x1 x2) (k0_pay80 x0 x1 x2) (k0_pay81 x0 x1 x2)) (k0_pay33 (k0_pay70 x0 x1 x2) (k0_pay76 x0 x1 x2) (k0_pay77 x0 x1 x2) (k0_pay78 x0 x1 x2) (k0_pay79 x0 x1 x2) (k0_pay80 x0 x1 x2) (k0_pay81 x0 x1 x2)) (k0_pay34 (k0_pay70 x0 x1 x2) (k0_pay76 x0 x1 x2) (k0_pay77 x0 x1 x2) (k0_pay78 x0 x1 x2) (k0_pay79 x0 x1 x2) (k0_pay80 x0 x1 x2) (k0_pay81 x0 x1 x2)) (k0_pay35 (k0_pay70 x0 x1 x2) (k0_pay76 x0 x1 x2) (k0_pay77 x0 x1 x2) (k0_pay78 x0 x1 x2) (k0_pay79 x0 x1 x2) (k0_pay80 x0 x1 x2) (k0_pay81 x0 x1 x2)) (k0_pay36 (k0_pay74 x0 x1 x2) (k0_pay76 x0 x1 x2)) =
    block 4 (fits 4) (cuts 4 (by decide)) (extractStridedSlice S1280x128 ![0, 0] (k0_pay71 x0 x1 x2) slices_S2048x128_o0_0_S1280x128) (extractStridedSlice S1280x128 ![0, 0] (k0_pay72 x0 x1 x2) slices_S2048x128_o0_0_S1280x128) (k0_pay73 x0 x1 x2) (View.ld x0 r0_5) := rfl

theorem piece5 (x0 x1 x2 : Vec F S2048x128 .f32) :
    k0_pay49 (k0_pay72 x0 x1 x2) (k0_pay74 x0 x1 x2) (k0_pay82 x0 x1 x2) (k0_pay45 (k0_pay70 x0 x1 x2) (k0_pay83 x0 x1 x2) (k0_pay84 x0 x1 x2) (k0_pay85 x0 x1 x2) (k0_pay86 x0 x1 x2) (k0_pay87 x0 x1 x2)) (k0_pay46 (k0_pay70 x0 x1 x2) (k0_pay82 x0 x1 x2) (k0_pay83 x0 x1 x2) (k0_pay84 x0 x1 x2) (k0_pay85 x0 x1 x2) (k0_pay86 x0 x1 x2) (k0_pay87 x0 x1 x2)) (k0_pay47 (k0_pay82 x0 x1 x2)) (k0_pay48 (k0_pay70 x0 x1 x2) (k0_pay83 x0 x1 x2) (k0_pay84 x0 x1 x2) (k0_pay85 x0 x1 x2) (k0_pay86 x0 x1 x2) (k0_pay87 x0 x1 x2)) =
    block 5 (fits 5) (cuts 5 (by decide)) (extractStridedSlice S1536x128 ![0, 0] (k0_pay71 x0 x1 x2) slices_S2048x128_o0_0_S1536x128) (extractStridedSlice S1536x128 ![0, 0] (k0_pay72 x0 x1 x2) slices_S2048x128_o0_0_S1536x128) (k0_pay73 x0 x1 x2) (View.ld x0 r0_6) := rfl

theorem piece6 (x0 x1 x2 : Vec F S2048x128 .f32) :
    k0_pay60 (k0_pay72 x0 x1 x2) (k0_pay58 (k0_pay70 x0 x1 x2) (k0_pay74 x0 x1 x2) (k0_pay88 x0 x1 x2) (k0_pay89 x0 x1 x2) (k0_pay90 x0 x1 x2) (k0_pay91 x0 x1 x2) (k0_pay92 x0 x1 x2)) (k0_pay59 (k0_pay70 x0 x1 x2) (k0_pay74 x0 x1 x2) (k0_pay88 x0 x1 x2) (k0_pay89 x0 x1 x2) (k0_pay90 x0 x1 x2) (k0_pay91 x0 x1 x2) (k0_pay92 x0 x1 x2)) =
    block 6 (fits 6) (cuts 6 (by decide)) (extractStridedSlice S1792x128 ![0, 0] (k0_pay71 x0 x1 x2) slices_S2048x128_o0_0_S1792x128) (extractStridedSlice S1792x128 ![0, 0] (k0_pay72 x0 x1 x2) slices_S2048x128_o0_0_S1792x128) (k0_pay73 x0 x1 x2) (View.ld x0 r0_7) := rfl

theorem piece7 (x0 x1 x2 : Vec F S2048x128 .f32) :
    k0_pay1 (k0_pay72 x0 x1 x2) (k0_pay69 (k0_pay74 x0 x1 x2) (k0_pay61 (k0_pay71 x0 x1 x2) (View.ld x0 r0_8)) (k0_pay67 (k0_pay70 x0 x1 x2) (k0_pay62 (k0_pay73 x0 x1 x2) (k0_pay70 x0 x1 x2) (View.ld x0 r0_8)) (k0_pay63 (k0_pay73 x0 x1 x2) (k0_pay70 x0 x1 x2) (View.ld x0 r0_8)) (k0_pay65 (k0_pay73 x0 x1 x2) (k0_pay70 x0 x1 x2) (View.ld x0 r0_8)) (k0_pay66 (k0_pay73 x0 x1 x2) (k0_pay70 x0 x1 x2) (View.ld x0 r0_8)) 2#32) (k0_pay68 (k0_pay70 x0 x1 x2))) =
    block 7 (fits 7) (cuts 7 (by decide)) (k0_pay71 x0 x1 x2) (k0_pay72 x0 x1 x2) (k0_pay73 x0 x1 x2) (View.ld x0 r0_8) := rfl

theorem piece0 (x0 x1 x2 : Vec F S2048x128 .f32) :
    k0_pay6 (View.ld x1 r0_0) (View.ld x2 r0_0) (View.ld x0 r0_1) =
    mixed 0 (fits 0) (extractStridedSlice S256x128 ![0, 0] (k0_pay72 x0 x1 x2) slices_S2048x128_o0_0_S256x128)
      (weights 0 (fits 0) (select (k0_pay74 x0 x1 x2) (scores 0 (fits 0)
        (extractStridedSlice S256x128 ![0, 0] (k0_pay71 x0 x1 x2) slices_S2048x128_o0_0_S256x128) (View.ld x0 r0_1))
        (broadcast S256x256 (Scalar.ofBits .f32 0xFF800000#32 : F .f32)))) := rfl

end Cert.MobaIdeal.Blocks
-- ==== Proof.Elements.lean ====
/- The elements of the kernel's query blocks. -/
module

public import proofs.«01_k».proof.Defs
public import proofs.«01_k».proof.Proof.Gen.MobaIdeal.Frame
public import Idealize.ShloMosaic.Lib.Pipeline.ValueKit
public import Idealize.ShloMosaic.Lib.Pointwise
public import proofs.«01_k».proof.Proof.Blocks
public import proofs.«01_k».proof.Proof.Rows
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MobaIdeal.Blocks

open Cert.MobaIdeal Cert.MobaIdeal.Gen Cert.Rows

/-- The word of `−∞` denotes it. -/
theorem ofBits_bot : Ideal.ofBits .f32 4286578688#32 = ⊥ := by simp [Ideal.ofBits, Ideal.ieee]

/-- A maximum folded from `−∞` is the supremum. -/
theorem fold_max {ι : Type} [Fintype ι] (f : ι → EReal) : Finset.fold max ⊥ f Finset.univ = Finset.univ.sup f := rfl

theorem mixed_apply (n : Nat) (h : Fits n) (v : FVec Ideal (Tall n) .bf16) (w : FVec Ideal (Wide n) .f32) (r : Fin 256) (c : Fin 128) :
    mixed n h v w (ix2 r c) = Ideal.div (∑ t : Fin (256 * (n + 1)), w (ix2 r t) * v (ix2 t c)) (∑ t : Fin (256 * (n + 1)), w (ix2 r t)) := by
  pointwise [mixed]
  rw [Ideal.matmul_apply₁_of _ (a := (1 : Fin 2)) rfl (K := 256 * (n + 1)) rfl _ _ _ _ (fun t => ix2 r t) (fun t => ix2 t c)
    (fun k => by funext a; fin_cases a <;> rfl) (fun k => by funext a; fin_cases a <;> rfl)]
  pointwise

theorem weights_apply (n : Nat) (h : Fits n) (l : FVec Ideal (Wide n) .f32) (r : Fin 256) (c : Fin (256 * (n + 1))) :
    weights n h l (ix2 r c) = Ideal.exp (l (ix2 r c) - Finset.univ.sup fun t : Fin (256 * (n + 1)) => l (ix2 r t)) := by
  pointwise [weights]
  rw [ofBits_bot, fold_max]

theorem scores_apply (n : Nat) (h : Fits n) (k : FVec Ideal (Tall n) .bf16) (q : FVec Ideal S256x128 .f32) (r : Fin 256) (c : Fin (256 * (n + 1))) :
    scores n h k q (ix2 r c) = (∑ x : Fin 128, q (ix2 r x) * k (ix2 c x)) * Ideal.ofBits .f32 0x3DB504F3#32 := by
  unfold scores
  show (matmul _ _ _ _ _ : FVec Ideal (Wide n) .f32) (ix2 r c) * _ = _
  rw [show ∀ p d (a : FVec Ideal S256x128 .bf16) b e, (matmul d p a b e : FVec Ideal (Wide n) .f32) = Ideal.matmul d a b e from fun _ _ _ _ _ => rfl]
  rw [Ideal.matmul_apply₁_of _ (a := (1 : Fin 2)) rfl (K := 128) rfl _ _ _ _ (fun t => ix2 r t) (fun t => ix2 c t)
    (fun k => by funext a; fin_cases a <;> rfl) (fun k => by funext a; fin_cases a <;> rfl)]
  pointwise

theorem logits_apply (n : Nat) (h : Cuts n) (p : Fin (n + 1) → FVec Ideal S256x256 .f32) (r : Fin 256) (c : Fin (256 * (n + 1))) :
    logits n h p (ix2 r c) = p ⟨c.val / 256, by omega⟩ (ix2 r ⟨c.val % 256, by omega⟩) := by
  unfold logits
  refine concatenate_ofFn_apply (t := Wide n) (1 : Fin 2) p _ rfl 256 rfl (ix2 r c) ⟨c.val / 256, by omega⟩ rfl
    (ix2 r ⟨c.val % 256, by omega⟩) rfl fun b hb => ?_
  fin_cases b
  · rfl
  · exact absurd rfl hb

theorem part_apply (n : Nat) (h : Cuts n) (s : FVec Ideal (Wide n) .f32) (b : FVec Ideal S256x8 .f32) (hn : n < 8) (j : Fin (n + 1)) (r c : Fin 256) :
    part n h s b j (ix2 r c) = if j.val < n then s (ix2 r ⟨256 * j.val + c.val, by omega⟩) + b (ix2 r ⟨j.val, by omega⟩)
      else if c ≤ r then s (ix2 r ⟨256 * j.val + c.val, by omega⟩) else ⊥ := by
  have hx : ∀ f : (Wide n).Idx, (f 0).val = 0 + r.val → (f 1).val = 256 * j.val + c.val →
      f = ix2 r ⟨256 * j.val + c.val, by omega⟩ := by
    intro f h0 h1
    funext a
    fin_cases a
    · exact Fin.ext (h0.trans (Nat.zero_add _))
    · exact Fin.ext h1
  unfold part
  split
  · pointwise
    exact congrArg₂ (· + ·) (congrArg s (hx _ rfl rfl)) rfl
  · pointwise
    rw [ofBits_bot, WordCmp.cmpi_sle_ofNat (by omega) (by omega)]
    by_cases hc : c ≤ r
    · rw [if_pos hc, decide_eq_true (Fin.le_def.1 hc)]
      exact congrArg s (hx _ rfl rfl)
    · rw [if_neg hc, decide_eq_false (fun h => hc (Fin.le_def.2 h))]
      rfl

theorem ahead_apply (n : Fin 8) (h) (g : FVec Ideal S256x8 .f32) (r : Fin 256) (j : Fin 8) :
    ahead g n.val h (ix2 r j) = if Beats (fun b => g (ix2 r b)) n j then 1#32 else 0#32 := by
  pointwise [ahead]
  rw [WordCmp.cmpi_sgt_ofNat (by omega) (by omega)]
  unfold Beats
  by_cases h1 : g (ix2 r j) < g (ix2 r n) <;> by_cases h2 : g (ix2 r n) = g (ix2 r j) <;> by_cases h3 : n.val < j.val <;>
    simp [h1, h2, h3, Fin.lt_def] <;> rfl

/-- The rank counts the blocks before each block among the first `n`. -/
theorem rank_apply (g : FVec Ideal S256x8 .f32) (r : Fin 256) (j : Fin 8) (n : Nat) (hn : n ≤ 8) (h) :
    rank g n h (ix2 r j) = BitVec.ofNat 32 (∑ a : Fin 8, if a.val < n ∧ Beats (fun b => g (ix2 r b)) a j then 1 else 0) := by
  induction n with
  | zero => simp [rank]; rfl
  | succ n ih =>
    show rank g n _ (ix2 r j) + ahead g n _ (ix2 r j) = _
    rw [ih (by omega), ahead_apply ⟨n, by omega⟩]
    have hs : (∑ a : Fin 8, if a.val < n + 1 ∧ Beats (fun b => g (ix2 r b)) a j then 1 else 0)
        = (∑ a : Fin 8, if a.val < n ∧ Beats (fun b => g (ix2 r b)) a j then 1 else 0)
          + (if Beats (fun b => g (ix2 r b)) ⟨n, by omega⟩ j then 1 else 0) := by
      rw [show (if Beats (fun b => g (ix2 r b)) ⟨n, by omega⟩ j then 1 else 0)
          = ∑ a : Fin 8, if a = ⟨n, by omega⟩ then (if Beats (fun b => g (ix2 r b)) a j then 1 else 0) else 0 by simp,
        ← Finset.sum_add_distrib]
      refine Finset.sum_congr rfl fun a _ => ?_
      by_cases ha : a = ⟨n, by omega⟩
      · subst ha; simp
      · have : a.val ≠ n := fun e => ha (Fin.ext e)
        rw [if_neg ha, add_zero]
        refine if_congr (and_congr_left fun _ => by omega) rfl rfl
    rw [hs, BitVec.ofNat_add]
    split <;> rfl

theorem bias_apply (n : Nat) (h : Cuts n) (hn : n < 8) (g : FVec Ideal S256x8 .f32) (r : Fin 256) (j : Fin 8) (hj : j.val < n)
    (hg : ∀ b : Fin 8, n ≤ b.val → g (ix2 r b) = ⊥) :
    bias n g h (ix2 r j) = if place (fun b => g (ix2 r b)) j < 3 then 0 else ⊥ := by
  pointwise [bias]
  rw [ofBits_bot, rank_apply _ _ _ _ (by omega)]
  have hp : (∑ a : Fin 8, if a.val < n ∧ Beats (fun b => g (ix2 r b)) a j then 1 else 0) = place (fun b => g (ix2 r b)) j := by
    refine Finset.sum_congr rfl fun a _ => if_congr ⟨And.right, fun hb => ⟨?_, hb⟩⟩ rfl rfl
    by_contra ha
    rcases hb with hb | ⟨_, hb⟩
    · exact not_lt_bot ((hg a (by omega)) ▸ hb : g (ix2 r j) < ⊥)
    · have := Fin.lt_def.1 hb; omega
  have hl : place (fun b => g (ix2 r b)) j ≤ 8 := place_le _ _
  rw [hp, WordCmp.cmpi_slt_ofNat (by omega) (by omega), WordCmp.cmpi_slt_ofNat (by omega) (by omega), decide_eq_true hj]
  by_cases h3 : place (fun b => g (ix2 r b)) j < 3
  · rw [if_pos h3, decide_eq_true h3]; rfl
  · rw [if_neg h3, decide_eq_false h3]; rfl

/-- The gate is `−∞` from the query's own block on. -/
theorem gate_apply (n : Nat) (hn : n < 8) (m : FVec Ideal S8x128 .f32) (q : FVec Ideal S256x128 .f32) (r : Fin 256) (j : Fin 8) :
    gate n m q (ix2 r j) = if j.val < n then ∑ x : Fin 128, q (ix2 r x) * m (ix2 j x) else ⊥ := by
  pointwise [gate]
  rw [ofBits_bot, WordCmp.cmpi_slt_ofNat (by omega) (by omega)]
  by_cases h : j.val < n
  · rw [if_pos h, decide_eq_true h]; rfl
  · rw [if_neg h, decide_eq_false h]; rfl

end Cert.MobaIdeal.Blocks
-- ==== Proof.Kernel.lean ====
/- The kernel's result at an element: the attention of the launch's own head. -/
module

public import proofs.«01_k».proof.Defs
public import proofs.«01_k».proof.Proof.Gen.MobaIdeal.Frame
public import Idealize.ShloMosaic.Lib.Pipeline.ValueKit
public import Idealize.ShloMosaic.Lib.Pointwise
public import proofs.«01_k».proof.Proof.Elements
public import proofs.«01_k».proof.Proof.Rows
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MobaIdeal.Blocks

open Cert.MobaIdeal Cert.MobaIdeal.Gen Cert.Rows

/-- The logits of block `n` at place `t` of the row. -/
theorem block_logits (n : Fin 8) (h : Fits n) (h' : Cuts n) (K : FVec Ideal (Tall n) .bf16) (M : FVec Ideal S8x128 .f32)
    (Q : FVec Ideal S256x128 .f32) (q k : Fin 2048 → Fin 128 → EReal) (hQ : ∀ r d, Q (ix2 r d) = q (row n r) d)
    (hK : ∀ (t : Fin (256 * (n.val + 1))) d, K (ix2 t d) = k ⟨t.val, by omega⟩ d) (hM : ∀ j d, M (ix2 j d) = means k j d)
    (r : Fin 256) (t : Fin (256 * (n.val + 1))) :
    logits n h' (part n h' (scores n h K Q) (bias n (gate n M Q) h')) (ix2 r t)
      = if t.val / 256 < n.val then score q k n r (⟨t.val / 256, by omega⟩, ⟨t.val % 256, by omega⟩)
            + (if place (gates q k n r) ⟨t.val / 256, by omega⟩ < 3 then 0 else ⊥)
        else if (⟨t.val % 256, by omega⟩ : Fin 256) ≤ r then score q k n r (⟨t.val / 256, by omega⟩, ⟨t.val % 256, by omega⟩) else ⊥ := by
  have hg : (fun b => gate n M Q (ix2 r b)) = gates q k n r := by
    funext b
    rw [gate_apply _ n.isLt]
    exact if_congr Fin.lt_def.symm (Finset.sum_congr rfl fun d _ => by rw [hQ, hM]) rfl
  have hs : ∀ c : Fin (256 * (n.val + 1)), scores n h K Q (ix2 r c)
      = score q k n r (⟨c.val / 256, by omega⟩, ⟨c.val % 256, by omega⟩) := by
    intro c
    rw [scores_apply]
    refine congrArg (· * _) (Finset.sum_congr rfl fun d _ => ?_)
    rw [hQ, hK]
    refine congrArg (fun x => q (row n r) d * k x d) (Fin.ext ?_)
    show c.val = 256 * (c.val / 256) + c.val % 256; omega
  have ht : (⟨256 * (t.val / 256) + t.val % 256, by omega⟩ : Fin (256 * (n.val + 1))) = t := Fin.ext (Nat.div_add_mod _ _)
  rw [logits_apply, part_apply _ _ _ _ n.isLt]
  simp only [ht]
  refine if_ctx_congr Iff.rfl (fun hlt => ?_) fun _ => ?_
  · rw [hs, bias_apply n h' n.isLt _ _ _ hlt, hg]
    intro b hb
    exact (congrFun hg b).trans (if_neg (not_lt.2 (Fin.le_def.2 hb)))
  · rw [hs]

/-- A row's exponentials, mixed and divided, are the attention. -/
theorem mixed_row (n : Fin 8) (h : Fits n) (V : FVec Ideal (Tall n) .bf16) (L : FVec Ideal (Wide n) .f32)
    (q k v : Fin 2048 → Fin 128 → EReal) (hV : ∀ (t : Fin (256 * (n.val + 1))) d, V (ix2 t d) = v ⟨t.val, by omega⟩ d)
    (r : Fin 256) (hL : ∀ t : Fin (256 * (n.val + 1)), L (ix2 r t)
      = if t.val / 256 < n.val then score q k n r (⟨t.val / 256, by omega⟩, ⟨t.val % 256, by omega⟩)
            + (if place (gates q k n r) ⟨t.val / 256, by omega⟩ < 3 then 0 else ⊥)
        else if (⟨t.val % 256, by omega⟩ : Fin 256) ≤ r then score q k n r (⟨t.val / 256, by omega⟩, ⟨t.val % 256, by omega⟩) else ⊥)
    (d : Fin 128) : mixed n h V (weights n h L) (ix2 r d) = attend q k v n r d := by
  have lays := lays_blocks (score q k n r) (gates q k n r) n r (fun t => L (ix2 r t))
    (fun t => (⟨t.val / 256, by omega⟩, ⟨t.val % 256, by omega⟩)) (fun _ => rfl) (fun t => by
      rw [hL]; exact if_congr (Fin.lt_def (a := ⟨t.val / 256, by omega⟩) (b := n)).symm rfl rfl)
  rw [mixed_apply]
  simp only [weights_apply]
  rw [lays.exp_mul_sum (fun x => v (row x.1 x.2) d) (fun t => V (ix2 t d)) fun t _ => ?_, lays.exp_sum]
  · rfl
  · rw [hV]
    refine congrArg (fun x => v x d) (Fin.ext ?_)
    show t.val = 256 * (t.val / 256) + t.val % 256; omega

/-- Block `n ≥ 1` computes the attention of its rows. -/
theorem block_row (n : Fin 8) (h : Fits n) (h' : Cuts n) (K V : FVec Ideal (Tall n) .bf16) (M : FVec Ideal S8x128 .f32)
    (Q : FVec Ideal S256x128 .f32) (q k v : Fin 2048 → Fin 128 → EReal) (hQ : ∀ r d, Q (ix2 r d) = q (row n r) d)
    (hK : ∀ (t : Fin (256 * (n.val + 1))) d, K (ix2 t d) = k ⟨t.val, by omega⟩ d)
    (hV : ∀ (t : Fin (256 * (n.val + 1))) d, V (ix2 t d) = v ⟨t.val, by omega⟩ d) (hM : ∀ j d, M (ix2 j d) = means k j d)
    (r : Fin 256) (d : Fin 128) : block n h h' K V M Q (ix2 r d) = attend q k v n r d :=
  mixed_row n h V _ q k v hV r (block_logits n h h' K M Q q k hQ hK hM r) d

/-- Block `0` has no past: its logits are its own scores under the causal mask. -/
theorem first_row (h : Fits (0 : Fin 8).val) (K V : FVec Ideal (Tall 0) .bf16) (C : IVec S256x256 1) (Q : FVec Ideal S256x128 .f32)
    (q k v : Fin 2048 → Fin 128 → EReal) (hQ : ∀ r d, Q (ix2 r d) = q (row 0 r) d)
    (hC : ∀ r c : Fin 256, C (ix2 r c) = BitVec.ofBool (decide (c ≤ r)))
    (hK : ∀ (t : Fin 256) d, K (ix2 t d) = k ⟨t.val, by omega⟩ d) (hV : ∀ (t : Fin 256) d, V (ix2 t d) = v ⟨t.val, by omega⟩ d)
    (r : Fin 256) (d : Fin 128) :
    mixed 0 h V (weights 0 h (select C (scores 0 h K Q) (broadcast S256x256 (Scalar.ofBits .f32 0xFF800000#32 : Ideal .f32))))
      (ix2 r d) = attend q k v 0 r d := by
  refine mixed_row 0 h V _ q k v hV r (fun t => ?_) d
  have hs : scores 0 h K Q (ix2 r t) = score q k 0 r (⟨t.val / 256, by omega⟩, ⟨t.val % 256, by omega⟩) := by
    rw [scores_apply]
    refine congrArg (· * _) (Finset.sum_congr rfl fun d _ => ?_)
    rw [hQ]
    refine congrArg (q (row 0 r) d * ·) ((hK t d).trans (congrArg (fun x => k x d) (Fin.ext ?_)))
    show t.val = 256 * (t.val / 256) + t.val % 256; omega
  have hm : (⟨t.val % 256, by omega⟩ : Fin 256) = t := Fin.ext (Nat.mod_eq_of_lt t.isLt)
  have ht : ¬ t.val / 256 < (0 : Fin 8).val := Nat.not_lt_zero _
  rw [if_neg ht, ← hs]
  show Scalar.select (C (ix2 r t)) (scores 0 h K Q (ix2 r t)) (Ideal.ofBits .f32 0xFF800000#32) = _
  rw [hC r t, ofBits_bot, hm]
  by_cases hc : (t : Fin 256) ≤ r
  · rw [if_pos hc, decide_eq_true hc]; rfl
  · rw [if_neg hc, decide_eq_false hc]; rfl

/-- A block of queries, keys or values as a function of the row and the lane. -/
abbrev rows (x : Vec Ideal S2048x128 .f32) (s : Fin 2048) (d : Fin 128) : EReal := x (ix2 s d)

/-- The mean keys the kernel keeps. -/
theorem means_apply (x0 x1 x2 : Vec Ideal S2048x128 .f32) (j : Fin 8) (d : Fin 128) :
    k0_pay73 x0 x1 x2 (ix2 j d) = means (rows x1) j d := by
  unfold k0_pay73
  pointwise [k0_pay4]
  unfold means rows row
  refine congrArg (Ideal.div · _) (Finset.sum_congr rfl fun c _ => ?_)
  blk_ext [r0_0]

/-- A load of the block's own 256 rows. -/
theorem load_rows (n : Fin 8) (x : Vec Ideal S2048x128 .f32) (h) (r : Fin 256) (d : Fin 128) :
    View.ld x (Rect.unit (s := S2048x128) ![256 * n.val, 0] S256x128.size h) (ix2 r d) = rows x (row n r) d := by
  show x _ = x _
  refine congrArg x (funext fun a => Fin.ext ?_)
  rw [Rect.idx_unit_val]
  fin_cases a
  · rfl
  · exact Nat.zero_add _

/-- The first rows of a block. -/
theorem cut_rows (n : Nat) (hn : n < 8) (x : FVec Ideal S2048x128 .bf16) (h : S2048x128.Slices ![0, 0] (Tall n)) (t : Fin (256 * (n + 1))) (d : Fin 128) :
    extractStridedSlice (Tall n) ![0, 0] x h (ix2 t d) = x (ix2 ⟨t.val, by omega⟩ d) := by
  pointwise

/-- The rounded keys are the keys. -/
theorem keys_apply (x0 x1 x2 : Vec Ideal S2048x128 .f32) (s : Fin 2048) (d : Fin 128) :
    k0_pay71 x0 x1 x2 (ix2 s d) = rows x1 s d := by
  unfold k0_pay71
  pointwise [k0_pay2]

/-- The rounded values are the values. -/
theorem values_apply (x0 x1 x2 : Vec Ideal S2048x128 .f32) (s : Fin 2048) (d : Fin 128) :
    k0_pay72 x0 x1 x2 (ix2 s d) = rows x2 s d := by
  unfold k0_pay72
  pointwise [k0_pay3]

/-- The causal mask. -/
theorem causal_apply (x0 x1 x2 : Vec Ideal S2048x128 .f32) (r c : Fin 256) :
    k0_pay74 x0 x1 x2 (ix2 r c) = BitVec.ofBool (decide (c ≤ r)) := by
  unfold k0_pay74
  pointwise [k0_pay5]
  rw [WordCmp.cmpi_sle_ofNat (by omega) (by omega)]
  rfl

/-- A stored piece read at its place in the block. -/
theorem piece_at (B : S256x128.Idx → EReal) (f : Fin 8 → Fin 256 → Fin 128 → EReal) (n : Fin 8)
    (hB : ∀ r d, B (ix2 r d) = f n r d) (x : S256x128.Idx) (i : Fin 8) (r : Fin 256) (d : Fin 128)
    (h0 : 256 * n.val + (x 0).val = 256 * i.val + r.val) (h1 : (x 1).val = d.val) (hx : (x 0).val < 256) : B x = f i r d := by
  obtain rfl : n = i := Fin.ext (by omega)
  rw [← hB]
  refine congrArg B (funext fun a => Fin.ext ?_)
  fin_cases a
  · show (x 0).val = r.val; omega
  · exact h1

/-- A launch's result: the attention of its queries, keys and values. -/
theorem out_apply (x0 x1 x2 : Vec Ideal S2048x128 .f32) (y : S2048x128.Idx) (i : Fin 8) (r : Fin 256) (d : Fin 128)
    (hy0 : (y 0).val = 256 * i.val + r.val) (hy1 : (y 1).val = d.val) :
    out0_3 x0 x1 x2 y = attend (rows x0) (rows x1) (rows x2) i r d := by
  have cutK : ∀ n (hn : n < 8) (h : S2048x128.Slices ![0, 0] (Tall n)) (t : Fin (256 * (n + 1))) d,
      extractStridedSlice (Tall n) ![0, 0] (k0_pay71 x0 x1 x2) h (ix2 t d) = rows x1 ⟨t.val, by omega⟩ d :=
    fun n hn h t d => (cut_rows n hn _ h t d).trans (keys_apply _ _ _ _ _)
  have cutV : ∀ n (hn : n < 8) (h : S2048x128.Slices ![0, 0] (Tall n)) (t : Fin (256 * (n + 1))) d,
      extractStridedSlice (Tall n) ![0, 0] (k0_pay72 x0 x1 x2) h (ix2 t d) = rows x2 ⟨t.val, by omega⟩ d :=
    fun n hn h t d => (cut_rows n hn _ h t d).trans (values_apply _ _ _ _ _)
  unfold out0_3
  rw [piece0, piece1, piece2, piece3, piece4, piece5, piece6, piece7]
  canon_tiles x h
  case piece0 =>
    exact piece_at _ (attend (rows x0) (rows x1) (rows x2)) 7 (block_row 7 _ _ _ _ _ _ _ _ _ (load_rows 7 x0 _)
      (keys_apply x0 x1 x2) (values_apply x0 x1 x2) (means_apply x0 x1 x2)) x i r d (h0.symm.trans hy0) (h1.symm.trans hy1) x0_lt
  case piece1 =>
    exact piece_at _ (attend (rows x0) (rows x1) (rows x2)) 6 (block_row 6 _ _ _ _ _ _ _ _ _ (load_rows 6 x0 _)
      (cutK 6 (by decide) _) (cutV 6 (by decide) _) (means_apply x0 x1 x2)) x i r d (h0.symm.trans hy0) (h1.symm.trans hy1) x0_lt
  case piece2 =>
    exact piece_at _ (attend (rows x0) (rows x1) (rows x2)) 5 (block_row 5 _ _ _ _ _ _ _ _ _ (load_rows 5 x0 _)
      (cutK 5 (by decide) _) (cutV 5 (by decide) _) (means_apply x0 x1 x2)) x i r d (h0.symm.trans hy0) (h1.symm.trans hy1) x0_lt
  case piece3 =>
    exact piece_at _ (attend (rows x0) (rows x1) (rows x2)) 4 (block_row 4 _ _ _ _ _ _ _ _ _ (load_rows 4 x0 _)
      (cutK 4 (by decide) _) (cutV 4 (by decide) _) (means_apply x0 x1 x2)) x i r d (h0.symm.trans hy0) (h1.symm.trans hy1) x0_lt
  case piece4 =>
    exact piece_at _ (attend (rows x0) (rows x1) (rows x2)) 3 (block_row 3 _ _ _ _ _ _ _ _ _ (load_rows 3 x0 _)
      (cutK 3 (by decide) _) (cutV 3 (by decide) _) (means_apply x0 x1 x2)) x i r d (h0.symm.trans hy0) (h1.symm.trans hy1) x0_lt
  case piece5 =>
    exact piece_at _ (attend (rows x0) (rows x1) (rows x2)) 2 (block_row 2 _ _ _ _ _ _ _ _ _ (load_rows 2 x0 _)
      (cutK 2 (by decide) _) (cutV 2 (by decide) _) (means_apply x0 x1 x2)) x i r d (h0.symm.trans hy0) (h1.symm.trans hy1) x0_lt
  case piece6 =>
    exact piece_at _ (attend (rows x0) (rows x1) (rows x2)) 1 (block_row 1 _ _ _ _ _ _ _ _ _ (load_rows 1 x0 _)
      (cutK 1 (by decide) _) (cutV 1 (by decide) _) (means_apply x0 x1 x2)) x i r d (h0.symm.trans hy0) (h1.symm.trans hy1) x0_lt
  case piece7 =>
    exact piece_at _ (attend (rows x0) (rows x1) (rows x2)) 0 (first_row _ _ _ _ _ _ _ _ (load_rows 0 x0 _)
      (causal_apply x0 x1 x2) (cutK 0 (by decide) _) (cutV 0 (by decide) _)) x i r d
      (((Nat.zero_add _).trans h0.symm).trans hy0) (h1.symm.trans hy1) x0_lt

/-! ## The result array -/

variable (m : (ℓ : Loc nD τ sig) → Buf (Elt Ideal) ℓ)

/-- The head at batch `b` and column block `j` of the projected rows `Z`. -/
def head (Z : FVec Ideal S8192x20480 .f32) (b : Fin 4) (j : Fin 160) (s : Fin 2048) (d : Fin 128) : EReal :=
  Z (ix2 ⟨2048 * b.val + s.val, by omega⟩ ⟨128 * j.val + d.val, by omega⟩)

/-- The attention of every batch and head of the projected rows `Z`. -/
def whole (Z : FVec Ideal S8192x20480 .f32) : FVec Ideal S8192x2048 .bf16 := fun y =>
  attend (head Z ⟨(y 0).val / 2048, by have : (y 0).val < 8192 := (y 0).isLt; omega⟩ ⟨48 + (y 1).val / 128, by have : (y 1).val < 2048 := (y 1).isLt; omega⟩)
    (head Z ⟨(y 0).val / 2048, by have : (y 0).val < 8192 := (y 0).isLt; omega⟩ ⟨64 + (y 1).val / 128, by have : (y 1).val < 2048 := (y 1).isLt; omega⟩)
    (head Z ⟨(y 0).val / 2048, by have : (y 0).val < 8192 := (y 0).isLt; omega⟩ ⟨80 + (y 1).val / 128, by have : (y 1).val < 2048 := (y 1).isLt; omega⟩)
    ⟨(y 0).val % 2048 / 256, by omega⟩ ⟨(y 0).val % 256, by omega⟩ ⟨(y 1).val % 128, by omega⟩

/-- The four windows' block indices at a grid point: batch and head, the queries, keys and values from their own columns. -/
theorem block_index : ∀ t : Fin cfg0.N, win0_0.index t = ![(grid0.coords t 0).val, 48 + (grid0.coords t 1).val]
    ∧ win0_1.index t = ![(grid0.coords t 0).val, 64 + (grid0.coords t 1).val]
    ∧ win0_2.index t = ![(grid0.coords t 0).val, 80 + (grid0.coords t 1).val]
    ∧ win0_3.index t = ![(grid0.coords t 0).val, (grid0.coords t 1).val] :=
  (by decide +kernel : ∀ t : Fin grid0.N, _)

/-- The attention array read at a place given by its batch, head, block, row and lane. -/
theorem whole_apply (Z : FVec Ideal S8192x20480 .f32) (p : S8192x2048.Idx) (b : Fin 4) (h : Fin 16) (i : Fin 8) (r : Fin 256)
    (d : Fin 128) (h0 : (p 0).val = 2048 * b.val + 256 * i.val + r.val) (h1 : (p 1).val = 128 * h.val + d.val) :
    whole Z p = attend (head Z b ⟨48 + h.val, by omega⟩) (head Z b ⟨64 + h.val, by omega⟩) (head Z b ⟨80 + h.val, by omega⟩) i r d := by
  have e0 : (p 0).val / 2048 = b.val := by omega
  have e1 : (p 1).val / 128 = h.val := by omega
  have e2 : (p 0).val % 2048 / 256 = i.val := by omega
  have e3 : (p 0).val % 256 = r.val := by omega
  have e4 : (p 1).val % 128 = d.val := by omega
  unfold whole
  simp only [e0, e1, e2, e3, e4, Fin.eta]

/-- The array after the run is the attention of the argument. -/
theorem final (c : Dev nD) : (dats m 0 c).arrAt 3 (cfgs 0).N = whole (m ((c : Thread nD τ).loc main_arg0)) := by
  refine (dats m 0 c).arrAt_eq_of_covers 3 _ (by decide +kernel) fun t _ y => ?_
  blk_simp
  rw [after0_3]
  have hy0 : (y 0).val < 2048 := (y 0).isLt
  have hy1 : (y 1).val < 128 := (y 1).isLt
  rw [out_apply _ _ _ y ⟨(y 0).val / 256, by omega⟩ ⟨(y 0).val % 256, by omega⟩ ⟨(y 1).val, hy1⟩ (Nat.div_add_mod _ _).symm rfl,
    whole_apply _ _ (grid0.coords t 0) (grid0.coords t 1) ⟨(y 0).val / 256, by omega⟩ ⟨(y 0).val % 256, by omega⟩ ⟨(y 1).val, hy1⟩]
  · congr 1 <;> funext s d <;> unfold rows head
    · blk_ext [iblk, V, block_index t]
    · blk_ext [iblk, V, block_index t]
    · blk_ext [iblk, V, block_index t]
  · blk_simp [block_index t]
    dsimp only
    omega
  · blk_simp [block_index t]
    dsimp only
    omega

end Cert.MobaIdeal.Blocks
-- ==== Proof.Reads.lean ====
/- The attention's reference read element by element: its gathers, its choice of blocks, its heads. -/
module

public import proofs.«01_k».proof.Defs
public import proofs.«01_k».proof.Proof.Gen.MobaRefIdeal.Run
public import Idealize.ShloMosaic.Lib.Pointwise
public import Idealize.ShloMosaic.Lib.WordCmp
public import proofs.«01_k».proof.Proof.Rows
public import proofs.«01_k».proof.Proof.Kernel

@[expose] public section

set_option maxRecDepth 16384

noncomputable section

open Idealize.ShloMosaic Idealize.ShloMosaic.TcCoe Idealize.SL.Sem

namespace Cert.MobaRefIdeal.Reads

open Cert.MobaRefIdeal Cert.MobaRefIdeal.Gen Cert.MobaRefIdeal.Value Cert.Rows
open Cert.MobaIdeal.Blocks (head)

/-- A block, head or batch number read off its word and clamped is itself. -/
theorem number_read : ∀ {n : Nat} (hn : n ≤ 16) (i : Fin n), min (BitVec.ofNat 32 i.val).toInt.toNat (n - 1) = i.val := by
  intro n hn i
  have key : ∀ k : Fin 16, (BitVec.ofNat 32 k.val).toInt.toNat = k.val := by decide
  have := key ⟨i.val, by omega⟩
  simp only at this
  omega

/-- Each query's own block: the gather at the word of a block number. -/
theorem own_gather {α : Type} (x : S4x16x8x256x128.Idx → α) (w : IVec S2048x1 32) (b : Fin 4) (h : Fin 16) (s : Fin 2048)
    (c : Fin 256) (d : Fin 128) (i : Fin 8) (hw : w (ix2 s 0) = BitVec.ofNat 32 i.val) :
    Host.gather gather_S4x16x8x256x128_S2048x1_S4x16x2048x256x128_0134_2_n_n_2_1_4161256128 x w (ix5 b h s c d)
      = x (ix5 b h i c d) := by
  refine congrArg x (funext fun a => Fin.ext ?_)
  fin_cases a
  · exact Nat.zero_add _
  · exact Nat.zero_add _
  · refine Eq.trans ?_ (number_read (n := 8) (by decide) i)
    show min (w (gather_S4x16x8x256x128_S2048x1_S4x16x2048x256x128_0134_2_n_n_2_1_4161256128.siIdx (ix5 b h s c d) ⟨0, by decide⟩)).toInt.toNat (8 - 1) = _
    rw [show gather_S4x16x8x256x128_S2048x1_S4x16x2048x256x128_0134_2_n_n_2_1_4161256128.siIdx (ix5 b h s c d) ⟨0, by decide⟩ = ix2 s 0 from
      funext fun a => by fin_cases a <;> rfl, hw]
  · exact Nat.zero_add _
  · exact Nat.zero_add _

/-- The chosen blocks: the gather at the words of a batch, a head and a block number. -/
theorem sel_gather {α : Type} (x : S4x16x8x256x128.Idx → α) (w : IVec S4x16x2048x3x3 32) (b : Fin 4) (h : Fin 16) (s : Fin 2048)
    (n : Fin 3) (c : Fin 256) (d : Fin 128) (i : Fin 8) (hb : w (ix5 b h s n 0) = BitVec.ofNat 32 b.val)
    (hh : w (ix5 b h s n 1) = BitVec.ofNat 32 h.val) (hi : w (ix5 b h s n 2) = BitVec.ofNat 32 i.val) :
    Host.gather gather_S4x16x8x256x128_S4x16x2048x3x3_S4x16x2048x3x256x128_45_012_n_n_012_4_111256128 x w (ix6 b h s n c d)
      = x (ix5 b h i c d) := by
  refine congrArg x (funext fun a => Fin.ext ?_)
  fin_cases a
  · refine Eq.trans ?_ (number_read (n := 4) (by decide) b)
    show min (w (gather_S4x16x8x256x128_S4x16x2048x3x3_S4x16x2048x3x256x128_45_012_n_n_012_4_111256128.siIdx (ix6 b h s n c d) ⟨0, by decide⟩)).toInt.toNat (4 - 1) = _
    rw [show gather_S4x16x8x256x128_S4x16x2048x3x3_S4x16x2048x3x256x128_45_012_n_n_012_4_111256128.siIdx (ix6 b h s n c d) ⟨0, by decide⟩ = ix5 b h s n 0 from
      funext fun a => by fin_cases a <;> rfl, hb]
  · refine Eq.trans ?_ (number_read (n := 16) (by decide) h)
    show min (w (gather_S4x16x8x256x128_S4x16x2048x3x3_S4x16x2048x3x256x128_45_012_n_n_012_4_111256128.siIdx (ix6 b h s n c d) ⟨1, by decide⟩)).toInt.toNat (16 - 1) = _
    rw [show gather_S4x16x8x256x128_S4x16x2048x3x3_S4x16x2048x3x256x128_45_012_n_n_012_4_111256128.siIdx (ix6 b h s n c d) ⟨1, by decide⟩ = ix5 b h s n 1 from
      funext fun a => by fin_cases a <;> rfl, hh]
  · refine Eq.trans ?_ (number_read (n := 8) (by decide) i)
    show min (w (gather_S4x16x8x256x128_S4x16x2048x3x3_S4x16x2048x3x256x128_45_012_n_n_012_4_111256128.siIdx (ix6 b h s n c d) ⟨2, by decide⟩)).toInt.toNat (8 - 1) = _
    rw [show gather_S4x16x8x256x128_S4x16x2048x3x3_S4x16x2048x3x256x128_45_012_n_n_012_4_111256128.siIdx (ix6 b h s n c d) ⟨2, by decide⟩ = ix5 b h s n 2 from
      funext fun a => by fin_cases a <;> rfl, hi]
  · exact Nat.zero_add _
  · exact Nat.zero_add _

variable (V0 : Valuation τ sig (Elt Ideal))

/-- The argument. -/
abbrev arg : FVec Ideal S8192x20480 .f32 := V0 (Proc.devRef .tc main_arg0)

/-- The queries of a batch and a head. -/
theorem queries_apply (b : Fin 4) (h : Fin 16) (s : Fin 2048) (d : Fin 128) :
    res_main_v2 (F := Ideal) V0 (ix4 b h s d) = head (arg V0) b ⟨48 + h.val, by omega⟩ s d := by
  unfold head
  pointwise [res_main_v2]
  blk_ext

/-- Their keys, block by block. -/
theorem keys_apply (b : Fin 4) (h : Fin 16) (j : Fin 8) (c : Fin 256) (d : Fin 128) :
    res_main_v9 (F := Ideal) V0 (ix5 b h j c d) = head (arg V0) b ⟨64 + h.val, by omega⟩ (row j c) d := by
  unfold head
  pointwise [res_main_v9]
  blk_ext

/-- Their values, block by block. -/
theorem values_apply (b : Fin 4) (h : Fin 16) (j : Fin 8) (c : Fin 256) (d : Fin 128) :
    res_main_v10 (F := Ideal) V0 (ix5 b h j c d) = head (arg V0) b ⟨80 + h.val, by omega⟩ (row j c) d := by
  unfold head
  pointwise [res_main_v10]
  blk_ext

/-- The number of a query's own block. -/
theorem block_apply (s : Fin 2048) : res_main_v15 (F := Ideal) V0 (ix1 s) = BitVec.ofNat 32 (s.val / 256) := by
  unfold res_main_v15 res_main_call0_v2 res_main_call0_v0 res_main_v14
  pointwise
  revert s
  decide +kernel

/-- A select against `−∞`. -/
theorem masked (p : Prop) [Decidable p] (x : Ideal .f32) :
    Scalar.select (BitVec.ofBool (decide p)) x (Ideal.ofBits .f32 0xFF800000#32) = if p then x else (⊥ : EReal) := by
  rw [Cert.MobaIdeal.Blocks.ofBits_bot]
  by_cases h : p
  · rw [if_pos h, decide_eq_true h]; rfl
  · rw [if_neg h, decide_eq_false h]; rfl

/-- The reference's mean keys. -/
abbrev meanKeys : FVec Ideal S4x16x8x128 .f32 :=
  Host.divf (Host.reduceAdd (res_main_v9 V0) (constant S_ .f32 0x00000000#32) reducesTo_S4x16x8x256x128_S4x16x8x128_d3 h_S_)
    (broadcastInDim S4x16x8x128 ![] bcast_S_S4x16x8x128 (constant S_ .f32 0x43800000#32))

/-- They are the means of the keys. -/
theorem means_apply (b : Fin 4) (h : Fin 16) (j : Fin 8) (d : Fin 128) :
    meanKeys V0 (ix4 b h j d) = means (head (arg V0) b ⟨64 + h.val, by omega⟩) j d := by
  unfold means
  pointwise [meanKeys]
  simp only [keys_apply]

/-- The gates, with `−∞` at the blocks that are not in the past. -/
theorem gates_apply (b : Fin 4) (h : Fin 16) (i : Fin 8) (r : Fin 256) (j : Fin 8) :
    res_main_v23 (F := Ideal) V0 (ix4 b h (row i r) j)
      = gates (head (arg V0) b ⟨48 + h.val, by omega⟩) (head (arg V0) b ⟨64 + h.val, by omega⟩) i r j := by
  have hM := means_apply V0 b h j
  unfold res_main_v23 gates
  change select _ (Host.dotGeneral _ none (res_main_v2 V0) (meanKeys V0)) _ _ = _
  generalize meanKeys V0 = M at hM ⊢
  pointwise
  simp only [queries_apply, block_apply, hM]
  rw [show (256 * i.val + r.val) / 256 = i.val by omega, WordCmp.cmpi_slt_ofNat (by omega) (by omega)]
  rw [show decide (j.val < i.val) = decide (j < i) from rfl]
  exact masked (j < i) _

/-- The blocks chosen, in order. -/
theorem chosen_apply (b : Fin 4) (h : Fin 16) (i : Fin 8) (r : Fin 256) (n : Fin 3) :
    res_main_indices (F := Ideal) V0 (ix4 b h (row i r) n) = BitVec.ofNat 32
      (chosen (gates (head (arg V0) b ⟨48 + h.val, by omega⟩) (head (arg V0) b ⟨64 + h.val, by omega⟩) i r) ⟨n.val, by omega⟩).val := by
  rw [← funext fun j => gates_apply V0 b h i r j]
  unfold res_main_indices Host.topK
  pointwise
  show BitVec.ofNat 32 (((ix4 b h (row i r) (⟨n.val, by omega⟩ : Fin 8) : S4x16x2048x8.Idx).along 3 (sortedFrom _ _)) 3).val = _
  rw [show ∀ (j : S4x16x2048x8.Idx) k, j.along 3 k 3 = k from fun j k => Function.update_self _ _ _]
  have hx : ∀ k : Fin 8, (ix4 b h (row i r) (⟨n.val, by omega⟩ : Fin 8) : S4x16x2048x8.Idx).along 3 k = ix4 b h (row i r) k :=
    fun k => funext fun a => by fin_cases a <;> rfl
  refine congrArg (fun f => BitVec.ofNat 32 (sortedFrom (n := 8) f ⟨n.val, by omega⟩).val) (funext fun (k : Fin 8) => funext fun (k' : Fin 8) => ?_)
  show (BitVec.ofBool (decide (@LT.lt EReal _ (res_main_v23 (F := Ideal) V0 ((ix4 b h (row i r) (⟨n.val, by omega⟩ : Fin 8) : S4x16x2048x8.Idx).along 3 k'))
      (res_main_v23 (F := Ideal) V0 ((ix4 b h (row i r) (⟨n.val, by omega⟩ : Fin 8) : S4x16x2048x8.Idx).along 3 k)))) == 1#1)
    = decide (@LT.lt EReal _ (res_main_v23 (F := Ideal) V0 (ix4 b h (row i r) k')) (res_main_v23 (F := Ideal) V0 (ix4 b h (row i r) k)))
  rw [hx, hx]
  exact (fun B => by cases B <;> rfl : ∀ B : Bool, (BitVec.ofBool B == 1#1) = B) _

/-- A small number is not negative: the wrap of negative indices leaves it. -/
theorem wrap (n : Nat) (hn : n < 16) (x : BitVec 32) :
    Scalar.select (IntOp.cmpi .slt (BitVec.ofNat 32 n) 0#32) x (BitVec.ofNat 32 n) = BitVec.ofNat 32 n := by
  have key : ∀ n : Fin 16, IntOp.cmpi .slt (BitVec.ofNat 32 n.val) 0#32 = 0#1 := by decide
  rw [show IntOp.cmpi .slt (BitVec.ofNat 32 n) 0#32 = 0#1 from key ⟨n, hn⟩]; rfl

/-- The start indices of the own blocks' gathers. -/
abbrev ownWords : IVec S2048x1 32 :=
  broadcastInDim S2048x1 ![0] bcast_S2048_S2048x1_0 (select (cmpi .slt (res_main_v15 V0) (broadcastInDim S2048 ![] bcast_S_S2048 (constantI S_ 32 0#32))) (addi (res_main_v15 V0) (broadcastInDim S2048 ![] bcast_S_S2048 (constantI S_ 32 8#32))) (res_main_v15 V0))

/-- They are the block numbers. -/
theorem ownWords_apply (i : Fin 8) (r : Fin 256) : ownWords V0 (ix2 (row i r) 0) = BitVec.ofNat 32 i.val := by
  pointwise [ownWords]
  rw [block_apply]
  show Scalar.select (IntOp.cmpi .slt (BitVec.ofNat 32 ((256 * i.val + r.val) / 256)) _) _ (BitVec.ofNat 32 ((256 * i.val + r.val) / 256)) = _
  rw [show (256 * i.val + r.val) / 256 = i.val by omega]
  exact wrap i.val (by omega) _

/-- The start indices of the chosen blocks' gathers: batch, head and block. -/
abbrev selWords : IVec S4x16x2048x3x3 32 :=
  concatenate S4x16x2048x3x3 4 [⟨S4x16x2048x3x1, ((broadcastInDim S4x16x2048x3x1 ![0, 1, 2, 3] bcast_S4x16x2048x3_S4x16x2048x3x1_0_1_2_3 (broadcastInDim S4x16x2048x3 ![0, 1, 2, 3] bcast_S4x1x1x1_S4x16x2048x3_0_1_2_3 (select (cmpi .slt (res_main_v29 V0) (broadcastInDim S4x1x1x1 ![] bcast_S_S4x1x1x1 (constantI S_ 32 0#32))) (addi (res_main_v29 V0) (broadcastInDim S4x1x1x1 ![] bcast_S_S4x1x1x1 (constantI S_ 32 4#32))) (res_main_v29 V0)))) : IVec S4x16x2048x3x1 32)⟩, ⟨S4x16x2048x3x1, ((broadcastInDim S4x16x2048x3x1 ![0, 1, 2, 3] bcast_S4x16x2048x3_S4x16x2048x3x1_0_1_2_3 (broadcastInDim S4x16x2048x3 ![0, 1, 2, 3] bcast_S1x16x1x1_S4x16x2048x3_0_1_2_3 (select (cmpi .slt (res_main_v31 V0) (broadcastInDim S1x16x1x1 ![] bcast_S_S1x16x1x1 (constantI S_ 32 0#32))) (addi (res_main_v31 V0) (broadcastInDim S1x16x1x1 ![] bcast_S_S1x16x1x1 (constantI S_ 32 16#32))) (res_main_v31 V0)))) : IVec S4x16x2048x3x1 32)⟩, ⟨S4x16x2048x3x1, ((broadcastInDim S4x16x2048x3x1 ![0, 1, 2, 3] bcast_S4x16x2048x3_S4x16x2048x3x1_0_1_2_3 (select (cmpi .slt (res_main_indices V0) (broadcastInDim S4x16x2048x3 ![] bcast_S_S4x16x2048x3 (constantI S_ 32 0#32))) (addi (res_main_indices V0) (broadcastInDim S4x16x2048x3 ![] bcast_S_S4x16x2048x3 (constantI S_ 32 8#32))) (res_main_indices V0))) : IVec S4x16x2048x3x1 32)⟩] concatenates_S4x16x2048x3x1_S4x16x2048x3x1_S4x16x2048x3x1_S4x16x2048x3x3_d4

/-- Their first component is the batch. -/
theorem selWords_batch (b : Fin 4) (h : Fin 16) (s : Fin 2048) (n : Fin 3) :
    selWords V0 (ix5 b h s n 0) = BitVec.ofNat 32 b.val := by
  pointwise [selWords, res_main_v29]
  exact wrap b.val (by omega) _

/-- Their second is the head. -/
theorem selWords_head (b : Fin 4) (h : Fin 16) (s : Fin 2048) (n : Fin 3) :
    selWords V0 (ix5 b h s n 1) = BitVec.ofNat 32 h.val := by
  pointwise [selWords, res_main_v31]
  exact wrap h.val (by omega) _

/-- The head's queries and keys. -/
abbrev qs (b : Fin 4) (h : Fin 16) := head (arg V0) b ⟨48 + h.val, by omega⟩
/-- The head's keys. -/
abbrev ks (b : Fin 4) (h : Fin 16) := head (arg V0) b ⟨64 + h.val, by omega⟩
/-- The head's values. -/
abbrev vs (b : Fin 4) (h : Fin 16) := head (arg V0) b ⟨80 + h.val, by omega⟩
/-- The block that a query chooses at position `n`. -/
abbrev sel (b : Fin 4) (h : Fin 16) (i : Fin 8) (r : Fin 256) (n : Fin 3) : Fin 8 :=
  chosen (gates (qs V0 b h) (ks V0 b h) i r) ⟨n.val, by omega⟩

/-- Their third is the block chosen. -/
theorem selWords_block (b : Fin 4) (h : Fin 16) (i : Fin 8) (r : Fin 256) (n : Fin 3) :
    selWords V0 (ix5 b h (row i r) n 2) = BitVec.ofNat 32 (sel V0 b h i r n).val := by
  pointwise [selWords]
  rw [chosen_apply]
  exact wrap _ (by omega) _

/-- The logits of the own blocks. -/
abbrev ownLogits : FVec Ideal S4x16x2048x256 .f32 :=
  select (broadcastInDim S4x16x2048x256 ![2, 3] bcast_S2048x256_S4x16x2048x256_2_3 (cmpi .sle (addi (broadcastInDim S2048x256 ![0, 1] bcast_S2048x1_S2048x256_0_1 (muli (broadcastInDim S2048x1 ![0] bcast_S2048_S2048x1_0 (res_main_v15 V0)) (broadcastInDim S2048x1 ![] bcast_S_S2048x1 (constantI S_ 32 256#32)))) (broadcastInDim S2048x256 ![0, 1] bcast_S1x256_S2048x256_0_1 (broadcastInDim S1x256 ![1] bcast_S256_S1x256_1 (iotaInDim S256 32 0)))) (broadcastInDim S2048x256 ![0, 1] bcast_S2048x1_S2048x256_0_1 (broadcastInDim S2048x1 ![0] bcast_S2048_S2048x1_0 (iotaInDim S2048 32 0))))) (mulf (Host.dotGeneral (φ₁ := .f32) (φ₂ := .f32) dot_S4x16x2048x128_S4x16x2048x256x128_S4x16x2048x256_3_4_n_3_012_012 none (res_main_v2 V0) (Host.gather (α := Ideal .f32) gather_S4x16x8x256x128_S2048x1_S4x16x2048x256x128_0134_2_n_n_2_1_4161256128 (res_main_v9 V0) (ownWords V0))) (broadcastInDim S4x16x2048x256 ![] bcast_S_S4x16x2048x256 (constant S_ .f32 0x3DB504F3#32))) (broadcastInDim S4x16x2048x256 ![] bcast_S_S4x16x2048x256 (id (constant S_ .f32 0xFF800000#32)))

/-- A key of a query's own block is seen when it is not after the query. -/
theorem ownLogits_apply (b : Fin 4) (h : Fin 16) (i : Fin 8) (r c : Fin 256) :
    ownLogits V0 (ix4 b h (row i r) c) = if c ≤ r then score (qs V0 b h) (ks V0 b h) i r (i, c) else ⊥ := by
  have hG : ∀ d, Host.gather (α := Ideal .f32) gather_S4x16x8x256x128_S2048x1_S4x16x2048x256x128_0134_2_n_n_2_1_4161256128 (res_main_v9 (F := Ideal) V0) (ownWords V0)
      (ix5 b h (row i r) c d) = ks V0 b h (row i c) d :=
    fun d => (own_gather _ _ b h (row i r) c d i (ownWords_apply V0 i r)).trans (keys_apply V0 b h i c d)
  unfold ownLogits score
  generalize Host.gather _ (res_main_v9 (F := Ideal) V0) (ownWords V0) = G at hG ⊢
  pointwise
  simp only [queries_apply, block_apply, hG]
  rw [show (256 * i.val + r.val) / 256 = i.val by omega,
    show IntOp.addi (IntOp.muli (BitVec.ofNat 32 i.val) 256#32) (BitVec.ofNat 32 c.val) = BitVec.ofNat 32 (256 * i.val + c.val) by
      show BitVec.ofNat 32 i.val * 256#32 + BitVec.ofNat 32 c.val = _
      rw [← BitVec.ofNat_mul, ← BitVec.ofNat_add, Nat.mul_comm],
    WordCmp.cmpi_sle_ofNat (by omega) (by omega),
    show decide (256 * i.val + c.val ≤ 256 * i.val + r.val) = decide (c ≤ r) from decide_eq_decide.2 (by rw [Fin.le_def]; omega)]
  exact masked (c ≤ r) _

/-- The logits of the chosen blocks. -/
abbrev selLogits : FVec Ideal S4x16x2048x3x256 .f32 :=
  select (broadcastInDim S4x16x2048x3x256 ![0, 1, 2, 3, 4] bcast_S4x16x2048x3x1_S4x16x2048x3x256_0_1_2_3_4 (broadcastInDim S4x16x2048x3x1 ![0, 1, 2, 3] bcast_S4x16x2048x3_S4x16x2048x3x1_0_1_2_3 (cmpi .slt (res_main_indices V0) (broadcastInDim S4x16x2048x3 ![0, 1, 2, 3] bcast_S1x1x2048x1_S4x16x2048x3_0_1_2_3 (broadcastInDim S1x1x2048x1 ![2, 3] bcast_S2048x1_S1x1x2048x1_2_3 (broadcastInDim S2048x1 ![0] bcast_S2048_S2048x1_0 (res_main_v15 V0))))))) (mulf (Host.dotGeneral (φ₁ := .f32) (φ₂ := .f32) dot_S4x16x2048x128_S4x16x2048x3x256x128_S4x16x2048x3x256_3_5_n_34_012_012 none (res_main_v2 V0) (Host.gather (α := Ideal .f32) gather_S4x16x8x256x128_S4x16x2048x3x3_S4x16x2048x3x256x128_45_012_n_n_012_4_111256128 (res_main_v9 V0) (selWords V0))) (broadcastInDim S4x16x2048x3x256 ![] bcast_S_S4x16x2048x3x256 (constant S_ .f32 0x3DB504F3#32))) (broadcastInDim S4x16x2048x3x256 ![] bcast_S_S4x16x2048x3x256 (id (constant S_ .f32 0xFF800000#32)))

/-- A key of a chosen block is seen when the block is in the past. -/
theorem selLogits_apply (b : Fin 4) (h : Fin 16) (i : Fin 8) (r : Fin 256) (n : Fin 3) (c : Fin 256) :
    selLogits V0 (ix5 b h (row i r) n c)
      = if sel V0 b h i r n < i then score (qs V0 b h) (ks V0 b h) i r (sel V0 b h i r n, c) else ⊥ := by
  have hG : ∀ d, Host.gather (α := Ideal .f32) gather_S4x16x8x256x128_S4x16x2048x3x3_S4x16x2048x3x256x128_45_012_n_n_012_4_111256128 (res_main_v9 (F := Ideal) V0) (selWords V0)
      (ix6 b h (row i r) n c d) = ks V0 b h (row (sel V0 b h i r n) c) d :=
    fun d => (sel_gather _ _ b h (row i r) n c d _ (selWords_batch V0 b h _ n) (selWords_head V0 b h _ n)
      (selWords_block V0 b h i r n)).trans (keys_apply V0 b h _ c d)
  unfold selLogits score
  generalize Host.gather _ (res_main_v9 (F := Ideal) V0) (selWords V0) = G at hG ⊢
  pointwise
  simp only [queries_apply, block_apply, chosen_apply, hG]
  rw [show (256 * i.val + r.val) / 256 = i.val by omega, WordCmp.cmpi_slt_ofNat (by omega) (by omega)]
  exact masked (sel V0 b h i r n < i) _

/-- The row of logits, own block first. -/
abbrev line (b : Fin 4) (h : Fin 16) (i : Fin 8) (r : Fin 256) (t : Fin 1024) : EReal :=
  res_main_v112 (F := Ideal) V0 (ix4 b h (row i r) t)

/-- Which key a place of the row belongs to. -/
def key (b : Fin 4) (h : Fin 16) (i : Fin 8) (r : Fin 256) (t : Fin 1024) : Fin 8 × Fin 256 :=
  if h' : t.val < 256 then (i, ⟨t.val, h'⟩) else (sel V0 b h i r ⟨(t.val - 256) / 256, by omega⟩, ⟨(t.val - 256) % 256, by omega⟩)

/-- The logits of a row. -/
theorem line_apply (b : Fin 4) (h : Fin 16) (i : Fin 8) (r : Fin 256) (t : Fin 1024) :
    line V0 b h i r t = if t.val < 256
      then (if (key V0 b h i r t).2 ≤ r then score (qs V0 b h) (ks V0 b h) i r (key V0 b h i r t) else ⊥)
      else if (key V0 b h i r t).1 < i then score (qs V0 b h) (ks V0 b h) i r (key V0 b h i r t) else ⊥ := by
  have hO := ownLogits_apply V0 b h i r
  have hS := selLogits_apply V0 b h i r
  unfold line res_main_v112 key
  change concatenate S4x16x2048x1024 3 [⟨S4x16x2048x256, ownLogits V0⟩,
    ⟨S4x16x2048x768, shapeCast _ (selLogits V0) shapeCasts_S4x16x2048x3x256_S4x16x2048x768⟩] _ _ = _
  generalize ownLogits V0 = O at hO ⊢
  generalize selLogits V0 = S at hS ⊢
  pointwise
  by_cases ht : t.val < 256
  · simp only [dif_pos ht, if_pos ht]
    exact hO ⟨t.val, ht⟩
  · simp only [dif_neg ht, if_neg ht]
    exact hS ⟨(t.val - 256) / 256, by omega⟩ ⟨(t.val - 256) % 256, by omega⟩

/-- The row lists each seen key's logit once. -/
theorem line_lays (b : Fin 4) (h : Fin 16) (i : Fin 8) (r : Fin 256) :
    Lays (score (qs V0 b h) (ks V0 b h) i r) (Seen (gates (qs V0 b h) (ks V0 b h) i r) i r) (line V0 b h i r) (key V0 b h i r)
      fun t => if t.val < 256 then (key V0 b h i r t).2 ≤ r else (key V0 b h i r t).1 < i :=
  lays_chosen _ _ i r _ (sel V0 b h i r) (fun n j => chosen_eq_iff _ _ _) _ (fun t => rfl) (line_apply V0 b h i r)

/-- The largest logit of a row. -/
theorem row_max (X : FVec Ideal S4x16x2048x1024 .f32) (b : Fin 4) (h : Fin 16) (s : Fin 2048) :
    Host.reduce FloatOps.maximumf X (constant S_ .f32 0xFF800000#32 : FVec Ideal S_ .f32) reducesTo_S4x16x2048x1024_S4x16x2048_d3 h_S_ (ix3 b h s)
      = (Finset.univ.sup fun t => X (ix4 b h s t) : EReal) := by
  rw [Host.reduce_eq_fold, Shape.ReducesTo.fold_fiber_r4_a3]
  show Finset.fold max (Ideal.ofBits .f32 0xFF800000#32) (fun t => X (ix4 b h s t)) Finset.univ = _
  rw [Cert.MobaIdeal.Blocks.ofBits_bot]
  exact Cert.MobaIdeal.Blocks.fold_max _

/-- The exponentials against a bound of each row. -/
theorem exps_of (X : FVec Ideal S4x16x2048x1024 .f32) (M : FVec Ideal S4x16x2048 .f32) (b : Fin 4) (h : Fin 16) (s : Fin 2048) (t : Fin 1024) :
    Host.exp (subf X (broadcastInDim S4x16x2048x1024 ![0, 1, 2, 3] bcast_S4x16x2048x1_S4x16x2048x1024_0_1_2_3 (broadcastInDim S4x16x2048x1 ![0, 1, 2] bcast_S4x16x2048_S4x16x2048x1_0_1_2 (maximumf (broadcastInDim S4x16x2048 ![] bcast_S_S4x16x2048 (constant S_ .f32 0xFF800000#32)) M)))) (ix4 b h s t)
      = Ideal.exp (X (ix4 b h s t) - max (Ideal.ofBits .f32 0xFF800000#32) (M (ix3 b h s))) := by
  pointwise

/-- The exponentials against the largest of each row. -/
theorem exps (X : FVec Ideal S4x16x2048x1024 .f32) (b : Fin 4) (h : Fin 16) (s : Fin 2048) (t : Fin 1024) :
    Host.exp (subf X (broadcastInDim S4x16x2048x1024 ![0, 1, 2, 3] bcast_S4x16x2048x1_S4x16x2048x1024_0_1_2_3 (broadcastInDim S4x16x2048x1 ![0, 1, 2] bcast_S4x16x2048_S4x16x2048x1_0_1_2 (maximumf (broadcastInDim S4x16x2048 ![] bcast_S_S4x16x2048 (constant S_ .f32 0xFF800000#32)) (Host.reduce FloatOps.maximumf X (constant S_ .f32 0xFF800000#32) reducesTo_S4x16x2048x1024_S4x16x2048_d3 h_S_))))) (ix4 b h s t)
      = Ideal.exp (X (ix4 b h s t) - Finset.univ.sup fun t => X (ix4 b h s t)) := by
  rw [exps_of, row_max, Cert.MobaIdeal.Blocks.ofBits_bot, bot_sup_eq]

/-- The exponentials of a row. -/
theorem exp_apply (b : Fin 4) (h : Fin 16) (i : Fin 8) (r : Fin 256) (t : Fin 1024) :
    res_main_v119 (F := Ideal) V0 (ix4 b h (row i r) t)
      = Ideal.exp (line V0 b h i r t - Finset.univ.sup (line V0 b h i r)) :=
  exps _ b h (row i r) t

/-- A row divided by its sum. -/
theorem row_div (X : FVec Ideal S4x16x2048x1024 .f32) (b : Fin 4) (h : Fin 16) (s : Fin 2048) (t : Fin 1024) :
    Host.divf X (broadcastInDim S4x16x2048x1024 ![0, 1, 2, 3] bcast_S4x16x2048x1_S4x16x2048x1024_0_1_2_3 (broadcastInDim S4x16x2048x1 ![0, 1, 2] bcast_S4x16x2048_S4x16x2048x1_0_1_2 (Host.reduceAdd X (constant S_ .f32 0x00000000#32) reducesTo_S4x16x2048x1024_S4x16x2048_d3 h_S_))) (ix4 b h s t)
      = Ideal.div (X (ix4 b h s t)) (∑ t, X (ix4 b h s t)) := by
  pointwise

/-- The softmax. -/
theorem soft_apply (b : Fin 4) (h : Fin 16) (i : Fin 8) (r : Fin 256) (t : Fin 1024) :
    res_main_v123 (F := Ideal) V0 (ix4 b h (row i r) t)
      = Ideal.div (Ideal.exp (line V0 b h i r t - Finset.univ.sup (line V0 b h i r)))
          (∑ t, Ideal.exp (line V0 b h i r t - Finset.univ.sup (line V0 b h i r))) := by
  refine (row_div _ b h (row i r) t).trans ?_
  rw [exp_apply]
  exact congrArg (Ideal.div _) (Finset.sum_congr rfl fun t _ => exp_apply V0 b h i r t)

/-- The mix of a head's values by weights `P`. -/
theorem mix_apply (P : FVec Ideal S4x16x2048x1024 .f32) (G : FVec Ideal S4x16x2048x256x128 .f32) (H : FVec Ideal S4x16x2048x3x256x128 .f32)
    (b : Fin 4) (h : Fin 16) (s : Fin 2048) (d : Fin 128) :
    addf (Host.dotGeneral dot_S4x16x2048x256_S4x16x2048x256x128_S4x16x2048x128_3_3_n_4_012_012 none (extractStridedSlice S4x16x2048x256 ![0, 0, 0, 0] P slices_S4x16x2048x1024_S4x16x2048x256_0_0_0_0) G)
      (Host.dotGeneral dot_S4x16x2048x3x256_S4x16x2048x3x256x128_S4x16x2048x128_43_43_n_5_012_012 none (shapeCast _ (extractStridedSlice S4x16x2048x768 ![0, 0, 0, 256] P slices_S4x16x2048x1024_S4x16x2048x768_0_0_0_256) shapeCasts_S4x16x2048x768_S4x16x2048x3x256) H)
      (ix4 b h s d)
    = (∑ c : Fin 256, P (ix4 b h s ⟨c.val, by omega⟩) * G (ix5 b h s c d))
      + ∑ n : Fin 3, ∑ c : Fin 256, P (ix4 b h s ⟨256 + (256 * n.val + c.val), by omega⟩) * H (ix6 b h s n c d) := by
  pointwise
  refine congrArg (_ + ·) (Finset.sum_comm.trans (Finset.sum_congr rfl fun n _ => Finset.sum_congr rfl fun c _ => ?_))
  refine congrArg (fun t => P (ix4 b h s t) * _) (Fin.ext ?_)
  show 256 + (n.val * 256 + c.val) = 256 + (256 * n.val + c.val); omega

/-- A sum over a row: the own block's places, then those of the three chosen blocks. -/
theorem row_sum (f : Fin 1024 → EReal) : ∑ t, f t = (∑ c : Fin 256, f ⟨c.val, by omega⟩)
    + ∑ n : Fin 3, ∑ c : Fin 256, f ⟨256 + (256 * n.val + c.val), by omega⟩ := by
  rw [Fin.sum_univ_tiles 4 256 rfl f, Fin.sum_univ_succ]
  refine congrArg₂ (· + ·) (Finset.sum_congr rfl fun c _ => congrArg f (Fin.ext ?_))
    (Finset.sum_congr rfl fun n _ => Finset.sum_congr rfl fun c _ => congrArg f (Fin.ext ?_))
  · show 0 * 256 + c.val = c.val; omega
  · show (n.val + 1) * 256 + c.val = 256 + (256 * n.val + c.val); omega

/-- The reference's result, one head after the other. -/
abbrev heads : FVec Ideal S4x16x2048x128 .f32 :=
  addf (Host.dotGeneral (φ₁ := .f32) (φ₂ := .f32) dot_S4x16x2048x256_S4x16x2048x256x128_S4x16x2048x128_3_3_n_4_012_012 none (extractStridedSlice S4x16x2048x256 ![0, 0, 0, 0] (res_main_v123 V0) slices_S4x16x2048x1024_S4x16x2048x256_0_0_0_0) (Host.gather (α := Ideal .f32) gather_S4x16x8x256x128_S2048x1_S4x16x2048x256x128_0134_2_n_n_2_1_4161256128 (res_main_v10 V0) (ownWords V0)))
    (Host.dotGeneral (φ₁ := .f32) (φ₂ := .f32) dot_S4x16x2048x3x256_S4x16x2048x3x256x128_S4x16x2048x128_43_43_n_5_012_012 none (shapeCast _ (extractStridedSlice S4x16x2048x768 ![0, 0, 0, 256] (res_main_v123 V0) slices_S4x16x2048x1024_S4x16x2048x768_0_0_0_256) shapeCasts_S4x16x2048x768_S4x16x2048x3x256) (Host.gather (α := Ideal .f32) gather_S4x16x8x256x128_S4x16x2048x3x3_S4x16x2048x3x256x128_45_012_n_n_012_4_111256128 (res_main_v10 V0) (selWords V0)))

/-- It is the attention, when the scores are real numbers. -/
theorem heads_apply (b : Fin 4) (h : Fin 16) (i : Fin 8) (r : Fin 256) (d : Fin 128)
    (hS : ∀ x, ∃ z : ℝ, score (qs V0 b h) (ks V0 b h) i r x = z) :
    heads V0 (ix4 b h (row i r) d) = attend (qs V0 b h) (ks V0 b h) (vs V0 b h) i r d := by
  have hG : ∀ c, Host.gather (α := Ideal .f32) gather_S4x16x8x256x128_S2048x1_S4x16x2048x256x128_0134_2_n_n_2_1_4161256128 (res_main_v10 (F := Ideal) V0) (ownWords V0)
      (ix5 b h (row i r) c d) = vs V0 b h (row i c) d :=
    fun c => (own_gather _ _ b h (row i r) c d i (ownWords_apply V0 i r)).trans (values_apply V0 b h i c d)
  have hH : ∀ n c, Host.gather (α := Ideal .f32) gather_S4x16x8x256x128_S4x16x2048x3x3_S4x16x2048x3x256x128_45_012_n_n_012_4_111256128 (res_main_v10 (F := Ideal) V0) (selWords V0)
      (ix6 b h (row i r) n c d) = vs V0 b h (row (sel V0 b h i r n) c) d :=
    fun n c => (sel_gather _ _ b h (row i r) n c d _ (selWords_batch V0 b h _ n) (selWords_head V0 b h _ n)
      (selWords_block V0 b h i r n)).trans (values_apply V0 b h _ c d)
  have hmix := (line_lays V0 b h i r).mix_div (fun x _ => hS x) ⟨(i, r), .inl ⟨rfl, le_refl r⟩⟩
    (fun x => vs V0 b h (row x.1 x.2) d) (fun t => vs V0 b h (row (key V0 b h i r t).1 (key V0 b h i r t).2) d) fun t _ => rfl
  refine ((mix_apply _ _ _ b h (row i r) d).trans ?_).trans hmix
  rw [row_sum]
  refine congrArg₂ (· + ·) (Finset.sum_congr rfl fun c _ => ?_) (Finset.sum_congr rfl fun n _ => Finset.sum_congr rfl fun c _ => ?_)
  · refine congrArg₂ (· * ·) (soft_apply V0 b h i r _) ((hG c).trans ?_)
    rw [show key V0 b h i r ⟨c.val, by omega⟩ = (i, c) from dif_pos c.isLt]
  · refine congrArg₂ (· * ·) (soft_apply V0 b h i r _) ((hH n c).trans ?_)
    have hk : key V0 b h i r ⟨256 + (256 * n.val + c.val), by omega⟩ = (sel V0 b h i r n, c) := by
      refine (dif_neg (by show ¬ 256 + (256 * n.val + c.val) < 256; omega)).trans (congrArg₂ (fun n c => (sel V0 b h i r n, c)) (Fin.ext ?_) (Fin.ext ?_))
      · show (256 + (256 * n.val + c.val) - 256) / 256 = n.val; omega
      · show (256 + (256 * n.val + c.val) - 256) % 256 = c.val; omega
    rw [hk]

/-- The result, back in rows of all heads. -/
theorem result_apply (X : FVec Ideal S4x16x2048x128 .f32) (b : Fin 4) (h : Fin 16) (s : Fin 2048) (d : Fin 128) (p : S8192x2048.Idx)
    (h0 : (p 0).val = 2048 * b.val + s.val) (h1 : (p 1).val = 128 * h.val + d.val) :
    truncf .bf16 (shapeCast S8192x2048 (transpose S4x2048x16x128 [0, 2, 1, 3] X transposes_S4x16x2048x128_S4x2048x16x128_0_2_1_3) shapeCasts_S4x2048x16x128_S8192x2048) bitsLt_bf16_f32 p
      = X (ix4 b h s d) := by
  pointwise
  blk_ext

/-- The reference's array is the attention of every batch and head. -/
theorem whole_eq (hS : ∀ b h i r x, ∃ z : ℝ, score (qs V0 b h) (ks V0 b h) i r x = z) :
    truncf .bf16 (shapeCast S8192x2048 (transpose S4x2048x16x128 [0, 2, 1, 3] (heads V0) transposes_S4x16x2048x128_S4x2048x16x128_0_2_1_3) shapeCasts_S4x2048x16x128_S8192x2048) bitsLt_bf16_f32
      = Cert.MobaIdeal.Blocks.whole (arg V0) := by
  funext p
  have hp0 : (p 0).val < 8192 := (p 0).isLt
  have hp1 : (p 1).val < 2048 := (p 1).isLt
  rw [result_apply (heads V0) ⟨(p 0).val / 2048, by omega⟩ ⟨(p 1).val / 128, by omega⟩
      (row ⟨(p 0).val % 2048 / 256, by omega⟩ ⟨(p 0).val % 256, by omega⟩) ⟨(p 1).val % 128, by omega⟩ p
      (by dsimp only; omega) (by dsimp only; omega), heads_apply V0 _ _ _ _ _ (hS _ _ _ _)]
  exact (Cert.MobaIdeal.Blocks.whole_apply _ p _ _ _ _ _ (by dsimp only; omega) (by dsimp only; omega)).symm

end Cert.MobaRefIdeal.Reads

end
-- ==== Proof.Attention.lean ====
/-
  The two attentions meet: with finite queries and keys every score is a real number, and then the kernel's array and
  the reference's are the same attention.
-/
module

public import proofs.«01_k».proof.Defs
public import proofs.«01_k».proof.Proof.Reads
public import proofs.«01_k».proof.Proof.Gen.Pre_finite_scores
public import Idealize.ShloMosaic.Lib.ReduceAll
public import Idealize.ShloMosaic.Lib.Claim

@[expose] public section

set_option maxRecDepth 16384

noncomputable section

open Idealize.ShloMosaic Idealize.ShloMosaic.TcCoe Idealize.SL.Sem
open Cert.MobaIdeal.Blocks Cert.Rows

namespace Cert.Proof

/-- A bit that says `|x| < ∞` says that `x` is a real number. -/
theorem real_of_lt (x : Ideal .f32)
    (h : FloatOps.cmpf .olt (FloatOps.hostAbsf x) (FloatOps.ofBits (F := Ideal) .f32 0x7F800000#32) = 1#1) :
    ∃ z : ℝ, (x : EReal) = z := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    simp [Ideal.cmp, hn] at h
  induction x using EReal.rec with
  | bot => simp at hlt
  | coe z => exact ⟨z, rfl⟩
  | top => simp at hlt

/-- The predicate, true of an array, says that each of its queries and keys is a real number. -/
theorem real_columns (z : FVec Ideal Cert.Pre_finite_scores.S8192x20480 .f32)
    (hz : Cert.Pre_finite_scores.fn (F := Ideal) z = fun _ => 1#1) (a : Fin 8192) (e : Fin 4096) :
    ∃ w : ℝ, (z (ix2 a (⟨6144 + e.val, by omega⟩ : Fin 20480)) : EReal) = w := by
  have h := Host.reduce_andi_all _ _ _ _ _ (congrFun hz ix0) (ix2 a e)
  refine real_of_lt _ (Eq.trans ?_ h)
  pointwise

/-- A sum of products of real numbers, times the scale, is a real number. -/
theorem score_real (q k : Fin 2048 → Fin 128 → EReal) (hq : ∀ s d, ∃ w : ℝ, q s d = w) (hk : ∀ s d, ∃ w : ℝ, k s d = w)
    (i : Fin 8) (r : Fin 256) (x : Fin 8 × Fin 256) : ∃ w : ℝ, score q k i r x = w := by
  choose q' hq using hq
  choose k' hk using hk
  obtain ⟨w, hw⟩ : ∃ w : ℝ, Ideal.ofBits .f32 0x3DB504F3#32 = w := ⟨_, by simp [Ideal.ofBits, Ideal.ieee]; rfl⟩
  refine ⟨(∑ d : Fin 128, q' (row i r) d * k' (row x.1 x.2) d) * w, ?_⟩
  simp only [score, hq, hk, hw]
  push_cast
  rfl

end Cert.Proof

/-- With finite queries and keys the kernel's attention and the reference's, exact, give the same array. -/
theorem Cert.Proof.attention : Cert.algebraic_MobaIdeal_MobaRefIdeal_pre_finite_scores (hMobaIdeal := Cert.MobaIdeal.Gen.facts)
    (hMobaRefIdeal := Cert.MobaRefIdeal.Gen.facts) (hPre_finite_scores := Cert.Pre_finite_scores.Gen.facts) := by
  pair_intro
  · run_from Cert.MobaIdeal.Gen.run_main m g
  · run_from Cert.MobaRefIdeal.Value.run m' g'
    have hr := Cert.Proof.real_columns _ (hpre c)
    have hz : Cert.MobaRefIdeal.Reads.arg (StableHlo.launchContents m' c)
        = m ((c : Thread Cert.MobaIdeal.nD Cert.MobaIdeal.τ).loc Cert.MobaIdeal.main_arg0) := hagree c
    refine (Cert.MobaRefIdeal.Reads.whole_eq (StableHlo.launchContents m' c) fun b h i r x =>
      Cert.Proof.score_real _ _ (fun s d => ?_) (fun s d => ?_) i r x).trans ?_
    · obtain ⟨w, hw⟩ := hr ⟨2048 * b.val + s.val, by omega⟩ ⟨128 * h.val + d.val, by omega⟩
      refine ⟨w, Eq.trans ?_ hw⟩
      exact (congrFun hz _).trans (congrArg (m _) (congrArg (ix2 _) (Fin.ext (by dsimp only; omega))))
    · obtain ⟨w, hw⟩ := hr ⟨2048 * b.val + s.val, by omega⟩ ⟨2048 + (128 * h.val + d.val), by omega⟩
      refine ⟨w, Eq.trans ?_ hw⟩
      exact (congrFun hz _).trans (congrArg (m _) (congrArg (ix2 _) (Fin.ext (by dsimp only; omega))))
    · rw [hz]
      exact (Cert.MobaIdeal.Blocks.final m c).symm

end
-- ==== Proof.OutProjection.lean ====
/- The mixer's output projection and its residual: the tiled sum is the whole sum. -/
module

public import proofs.«01_k».proof.Defs
public import proofs.«01_k».proof.Proof.Gen.OutProjIdeal.Frame
public import proofs.«01_k».proof.Proof.Gen.OutProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjRefIdeal.Whole

open Cert.OutProjRefIdeal Cert.OutProjRefIdeal.Gen

/-- The residual plus the product of the merged rows and the weight. -/
abbrev whole (X : FVec Ideal S8192x4096 .bf16) (W : FVec Ideal S4096x4096 .f32) (H : FVec Ideal S8192x4096 .f32) : FVec Ideal S8192x4096 .f32 :=
  addf H (Host.dotGeneral dot_S8192x4096_S4096x4096_S8192x4096_1_0_0_1_n_n none (extf .f32 X bitsLt_bf16_f32) W)

end Cert.OutProjRefIdeal.Whole

namespace Cert.OutProjIdeal.Product

open Cert.OutProjIdeal Cert.OutProjIdeal.Gen Cert.OutProjRefIdeal.Whole

variable (m : (ℓ : Loc nD τ sig) → Buf (Elt Ideal) ℓ)

/-- The four windows' block indices at a grid point: the rows move with the second coordinate, the weight's columns
    with the first, the residual and the result with both. -/
theorem block_index : ∀ t : Fin cfg0.N, win0_0.index t = ![(grid0.coords t 1).val, 0]
    ∧ win0_1.index t = ![0, (grid0.coords t 0).val]
    ∧ win0_2.index t = ![(grid0.coords t 1).val, (grid0.coords t 0).val]
    ∧ win0_3.index t = ![(grid0.coords t 1).val, (grid0.coords t 0).val] :=
  (by decide +kernel : ∀ t : Fin grid0.N, _)

/-- What a grid point stores at an element of its block is the whole array at the place of that element. -/
theorem point (c : Dev nD) (t : Fin cfg0.N) (y) : k0_pay1 (iblk m c 2 t) (iblk m c 0 t) (iblk m c 1 t) y
    = whole (m ((c : Thread nD τ).loc main_arg0))
        (m ((c : Thread nD τ).loc main_arg1))
        (m ((c : Thread nD τ).loc main_arg2)) (((cfg0.win 3).blk t).view.emb y) := by
  pointwise [k0_pay1, whole]
  blk_point [iblk, V, block_index t]

/-- The result array after the run is the whole array of the arguments. -/
theorem final (c : Dev nD) : (dats m 0 c).arrAt 3 (cfgs 0).N
    = whole (m ((c : Thread nD τ).loc main_arg0))
        (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.OutProjIdeal.Product

/-- The kernel's output projection with its residual and the reference's, exact, give the same array. -/
theorem Cert.Proof.outProjection : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Gen.run_main m g
  · run_from Cert.OutProjRefIdeal.Value.run m' g'
    exact (Cert.OutProjIdeal.Product.final m c).symm

end
-- ==== Proof.PeerQueries.lean ====
/- The feed-forward's queries: the tiled product of the normalised rows and the weight is the whole product. -/
module

public import proofs.«01_k».proof.Defs
public import proofs.«01_k».proof.Proof.Gen.PeerQueryIdeal.Frame
public import proofs.«01_k».proof.Proof.Gen.PeerQueryRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PeerQueryRefIdeal.Whole

open Cert.PeerQueryRefIdeal Cert.PeerQueryRefIdeal.Gen

/-- The product of the normalised rows and the weight. -/
abbrev whole (X : FVec Ideal S8192x4096 .bf16) (W : FVec Ideal S4096x2048 .f32) : FVec Ideal S8192x2048 .f32 :=
  Host.dotGeneral dot_S8192x4096_S4096x2048_S8192x2048_1_0_0_1_n_n none (extf .f32 X bitsLt_bf16_f32) W

end Cert.PeerQueryRefIdeal.Whole

namespace Cert.PeerQueryIdeal.Product

open Cert.PeerQueryIdeal Cert.PeerQueryIdeal.Gen Cert.PeerQueryRefIdeal.Whole

variable (m : (ℓ : Loc nD τ sig) → Buf (Elt Ideal) ℓ)

/-- The three windows' block indices at a grid point. -/
theorem block_index : ∀ t : Fin cfg0.N, win0_0.index t = ![(grid0.coords t 1).val, 0]
    ∧ win0_1.index t = ![0, (grid0.coords t 0).val]
    ∧ win0_2.index t = ![(grid0.coords t 1).val, (grid0.coords t 0).val] :=
  (by decide +kernel : ∀ t : Fin grid0.N, _)

/-- What a grid point stores at an element of its block is the whole array at the place of that element. -/
theorem point (c : Dev nD) (t : Fin cfg0.N) (y) : k0_pay1 (iblk m c 0 t) (iblk m c 1 t) y
    = whole (m ((c : Thread nD τ).loc main_arg0))
        (m ((c : Thread nD τ).loc main_arg1)) (((cfg0.win 2).blk t).view.emb y) := by
  pointwise [k0_pay1, whole]
  blk_point [iblk, V, block_index t]

/-- The result array after the run is the whole array of the arguments. -/
theorem final (c : Dev nD) : (dats m 0 c).arrAt 2 (cfgs 0).N
    = whole (m ((c : Thread nD τ).loc main_arg0))
        (m ((c : Thread nD τ).loc main_arg1)) := by
  refine (dats m 0 c).arrAt_eq_of_covers 2 _ (by decide +kernel) fun t _ y => ?_
  blk_simp
  rw [after0_2]; frame_out
  exact point m c t y

end Cert.PeerQueryIdeal.Product

/-- The kernel's queries of the feed-forward and the reference's, exact, give the same array. -/
theorem Cert.Proof.peerQueries : Cert.algebraic_PeerQueryIdeal_PeerQueryRefIdeal (hPeerQueryIdeal := Cert.PeerQueryIdeal.Gen.facts)
    (hPeerQueryRefIdeal := Cert.PeerQueryRefIdeal.Gen.facts) := by
  pair_intro
  · run_from Cert.PeerQueryIdeal.Gen.run_main m g
  · run_from Cert.PeerQueryRefIdeal.Value.run m' g'
    exact (Cert.PeerQueryIdeal.Product.final m c).symm

end
-- ==== Proof.Merge.lean ====
/- The two branches' output projections, gated and added: the tiled sum is the whole sum. -/
module

public import proofs.«01_k».proof.Defs
public import proofs.«01_k».proof.Proof.Gen.MergeIdeal.Frame
public import proofs.«01_k».proof.Proof.Gen.MergeRefIdeal.Run
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeRefIdeal.Whole

open Cert.MergeRefIdeal Cert.MergeRefIdeal.Gen

/-- The branches' products, each times the sigmoid of its gate, added. -/
abbrev whole (X : FVec Ideal S8192x2048 .bf16) (Y : FVec Ideal S8192x2048 .bf16) (U : FVec Ideal S2048x4096 .f32) (W : FVec Ideal S2048x4096 .f32) (Z : FVec Ideal S8192x20480 .f32) (B : FVec Ideal S8192 .f32) : FVec Ideal S8192x4096 .bf16 :=
  truncf .bf16 (addf (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf (extractStridedSlice S8192x4096 ![0, 12288] Z slices_S8192x20480_S8192x4096_0_12288) (broadcastInDim S8192x4096 ![0, 1] bcast_S1x4096_S8192x4096_0_1 (broadcastInDim S1x4096 ![1] bcast_S4096_S1x4096_1 (extractStridedSlice S4096 ![0] B slices_S8192_S4096_0)))))))) (Host.dotGeneral dot_S8192x2048_S2048x4096_S8192x4096_1_0_0_1_n_n none (extf .f32 X bitsLt_bf16_f32) U)) (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf (extractStridedSlice S8192x4096 ![0, 16384] Z slices_S8192x20480_S8192x4096_0_16384) (broadcastInDim S8192x4096 ![0, 1] bcast_S1x4096_S8192x4096_0_1 (broadcastInDim S1x4096 ![1] bcast_S4096_S1x4096_1 (extractStridedSlice S4096 ![4096] B slices_S8192_S4096_4096)))))))) (Host.dotGeneral dot_S8192x2048_S2048x4096_S8192x4096_1_0_0_1_n_n none (extf .f32 Y bitsLt_bf16_f32) W))) bitsLt_bf16_f32

end Cert.MergeRefIdeal.Whole

namespace Cert.MergeIdeal.Sum

open Cert.MergeIdeal Cert.MergeIdeal.Gen Cert.MergeRefIdeal.Whole

variable (m : (ℓ : Loc nD τ sig) → Buf (Elt Ideal) ℓ)

/-- The nine windows' block indices at a grid point. -/
theorem block_index : ∀ t : Fin cfg0.N, win0_0.index t = ![(grid0.coords t 1).val, 0]
    ∧ win0_1.index t = ![(grid0.coords t 1).val, 0]
    ∧ win0_2.index t = ![0, (grid0.coords t 0).val]
    ∧ win0_3.index t = ![0, (grid0.coords t 0).val]
    ∧ win0_4.index t = ![(grid0.coords t 1).val, 12 + (grid0.coords t 0).val]
    ∧ win0_5.index t = ![(grid0.coords t 1).val, 16 + (grid0.coords t 0).val]
    ∧ win0_6.index t = ![0, (grid0.coords t 0).val]
    ∧ win0_7.index t = ![0, 4 + (grid0.coords t 0).val]
    ∧ win0_8.index t = ![(grid0.coords t 1).val, (grid0.coords t 0).val] :=
  (by decide +kernel : ∀ t : Fin grid0.N, _)

/-- The bias, laid out as one row of both branches' biases. -/
theorem bias (c : Dev nD) (k : Fin 8192) : V m c main_v2 (ix2 (0 : Fin 1) k) = m ((c : Thread nD τ).loc main_arg5) (ix1 k) := by
  have h : V m c main_v2 = shapeCast S1x8192 (m ((c : Thread nD τ).loc main_arg5)) shapeCasts_S8192_S1x8192 := by
    unfold V; after_results; rfl
  rw [h]
  exact ValueIdx.shapeCast_a_1a_apply _ _ 0 k

/-- What a grid point stores at an element of its block is the whole array at the place of that element. -/
theorem point (c : Dev nD) (t : Fin cfg0.N) (y) : k0_pay1 (iblk m c 0 t) (iblk m c 2 t) (iblk m c 1 t) (iblk m c 3 t) (iblk m c 4 t) (iblk m c 6 t) (iblk m c 5 t) (iblk m c 7 t) y
    = whole (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5)) (((cfg0.win 8).blk t).view.emb y) := by
  pointwise [k0_pay1, whole]
  refine congrArg₂ (· + ·) (congrArg₂ (· * ·) (congrArg Ideal.logistic (congrArg₂ (· + ·) ?_ ?_))
      (Finset.sum_congr rfl fun k _ => congrArg₂ (· * ·) ?_ ?_))
    (congrArg₂ (· * ·) (congrArg Ideal.logistic (congrArg₂ (· + ·) ?_ ?_))
      (Finset.sum_congr rfl fun k _ => congrArg₂ (· * ·) ?_ ?_))
  · blk_point [iblk, V, block_index t]
  · refine Eq.trans ?_ (bias m c _)
    blk_point [iblk, block_index t]
  · blk_point [iblk, V, block_index t]
  · blk_point [iblk, V, block_index t]
  · blk_point [iblk, V, block_index t]
  · refine Eq.trans ?_ (bias m c _)
    blk_point [iblk, block_index t]
  · blk_point [iblk, V, block_index t]
  · blk_point [iblk, V, block_index t]

/-- The result array after the run is the whole array of the arguments. -/
theorem final (c : Dev nD) : (dats m 0 c).arrAt 8 (cfgs 0).N
    = whole (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5)) := by
  refine (dats m 0 c).arrAt_eq_of_covers 8 _ (by decide +kernel) fun t _ y => ?_
  blk_simp
  rw [after0_8]; frame_out
  exact point m c t y

end Cert.MergeIdeal.Sum

/-- The kernel's merged branches and the reference's, exact, are the same array. -/
theorem Cert.Proof.merge : Cert.algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · run_from Cert.MergeRefIdeal.Value.run m' g'
    exact (Cert.MergeIdeal.Sum.final m c).symm

end
-- ==== Proof.Norm.lean ====
/- The normalisation of the rows by their root mean square, block by block and whole. -/
module

public import proofs.«01_k».proof.Defs
public import proofs.«01_k».proof.Proof.Gen.NormIdeal.Frame
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormRefIdeal.Whole

open Cert.NormRefIdeal Cert.NormRefIdeal.Gen

/-- The rows divided by their root mean square and weighted. -/
abbrev whole (X : FVec Ideal S8192x4096 .f32) (G : FVec Ideal S4096 .f32) : FVec Ideal S8192x4096 .bf16 :=
  truncf .bf16 (mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 G))) bitsLt_bf16_f32

end Cert.NormRefIdeal.Whole

namespace Cert.NormIdeal.Rows

open Cert.NormIdeal Cert.NormIdeal.Gen Cert.NormRefIdeal.Whole

variable (m : (ℓ : Loc nD τ sig) → Buf (Elt Ideal) ℓ)

/-- The three windows' block indices at a grid point. -/
theorem block_index : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- What a grid point stores at an element of its block is the whole array at the place of that element. -/
theorem point (c : Dev nD) (t : Fin cfg0.N) (y) : k0_pay1 (iblk m c 0 t) (iblk m c 1 t) y
    = whole (m ((c : Thread nD τ).loc main_arg0))
        (m ((c : Thread nD τ).loc main_arg1)) (((cfg0.win 2).blk t).view.emb y) := by
  pointwise [k0_pay1, whole]
  blk_point [iblk, V, block_index t]

/-- The result array after the run is the whole array of the arguments. -/
theorem final (c : Dev nD) : (dats m 0 c).arrAt 2 (cfgs 0).N
    = whole (m ((c : Thread nD τ).loc main_arg0))
        (m ((c : Thread nD τ).loc main_arg1)) := by
  refine (dats m 0 c).arrAt_eq_of_covers 2 _ (by decide +kernel) fun t _ y => ?_
  blk_simp
  rw [after0_2]; frame_out
  exact point m c t y

end Cert.NormIdeal.Rows

/-- The kernel's normalised rows and the reference's, exact, are the same array. -/
theorem Cert.Proof.norm : Cert.algebraic_NormIdeal_NormRefIdeal (hNormIdeal := Cert.NormIdeal.Gen.facts)
    (hNormRefIdeal := Cert.NormRefIdeal.Gen.facts) := by
  pair_intro
  · run_from Cert.NormIdeal.Gen.run_main m g
  · run_from Cert.NormRefIdeal.Value.run m' g'
    exact (Cert.NormIdeal.Rows.final m c).symm

end
-- ==== Proof.LastNorm.lean ====
/- The second residual and the last normalisation, block by block and whole. -/
module

public import proofs.«01_k».proof.Defs
public import proofs.«01_k».proof.Proof.Gen.LastNormIdeal.Frame
public import proofs.«01_k».proof.Proof.Gen.LastNormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LastNormRefIdeal.Whole

open Cert.LastNormRefIdeal Cert.LastNormRefIdeal.Gen

/-- The rows of the sum divided by their root mean square and weighted. -/
abbrev whole (X : FVec Ideal S8192x4096 .f32) (Y : FVec Ideal S8192x4096 .f32) (G : FVec Ideal S4096 .f32) : FVec Ideal S8192x4096 .f32 :=
  mulf (mulf (addf X Y) (broadcastInDim S8192x4096 ![0, 1] bcast_S8192x1_S8192x4096_0_1 (Host.rsqrt (addf (Host.divf (broadcastInDim S8192x1 ![0] bcast_S8192_S8192x1_0 (Host.reduceAdd (mulf (addf X Y) (addf X Y)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 G))

end Cert.LastNormRefIdeal.Whole

namespace Cert.LastNormIdeal.Rows

open Cert.LastNormIdeal Cert.LastNormIdeal.Gen Cert.LastNormRefIdeal.Whole

variable (m : (ℓ : Loc nD τ sig) → Buf (Elt Ideal) ℓ)

/-- The four windows' block indices at a grid point. -/
theorem block_index : ∀ t : Fin cfg0.N, win0_0.index t = ![(grid0.coords t 0).val, 0]
    ∧ win0_1.index t = ![(grid0.coords t 0).val, 0]
    ∧ win0_2.index t = ![0, 0]
    ∧ win0_3.index t = ![(grid0.coords t 0).val, 0] :=
  (by decide +kernel : ∀ t : Fin grid0.N, _)

/-- What a grid point stores at an element of its block is the whole array at the place of that element. -/
theorem point (c : Dev nD) (t : Fin cfg0.N) (y) : k0_pay1 (iblk m c 0 t) (iblk m c 1 t) (iblk m c 2 t) y
    = whole (m ((c : Thread nD τ).loc main_arg0))
        (m ((c : Thread nD τ).loc main_arg1))
        (m ((c : Thread nD τ).loc main_arg2)) (((cfg0.win 3).blk t).view.emb y) := by
  pointwise [k0_pay1, whole]
  blk_point [iblk, V, block_index t]

/-- The result array after the run is the whole array of the arguments. -/
theorem final (c : Dev nD) : (dats m 0 c).arrAt 3 (cfgs 0).N
    = whole (m ((c : Thread nD τ).loc main_arg0))
        (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.LastNormIdeal.Rows

/-- The kernel's last normalisation and the reference's, exact, give the same array. -/
theorem Cert.Proof.lastNorm : Cert.algebraic_LastNormIdeal_LastNormRefIdeal (hLastNormIdeal := Cert.LastNormIdeal.Gen.facts)
    (hLastNormRefIdeal := Cert.LastNormRefIdeal.Gen.facts) := by
  pair_intro
  · run_from Cert.LastNormIdeal.Gen.run_main m g
  · run_from Cert.LastNormRefIdeal.Value.run m' g'
    exact (Cert.LastNormIdeal.Rows.final m c).symm

end
-- ==== Proof.Convolution.lean ====
/- The gated causal depthwise convolution, block by block and whole. -/
module

public import proofs.«01_k».proof.Defs
public import proofs.«01_k».proof.Proof.Gen.ConvIdeal.Frame
public import proofs.«01_k».proof.Proof.Gen.ConvRefIdeal.Run
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvRefIdeal.Whole

open Cert.ConvRefIdeal Cert.ConvRefIdeal.Gen

/-- The gate times the three weighted taps of the gated rows. -/
abbrev whole (Z : FVec Ideal S8192x20480 .f32) (W : FVec Ideal S3x2048 .f32) : FVec Ideal S8192x2048 .bf16 :=
  truncf .bf16 (shapeCast _ (mulf (shapeCast _ (extractStridedSlice S8192x2048 ![0, 0] Z slices_S8192x20480_S8192x2048_0_0) shapeCasts_S8192x2048_S4x2048x2048) (addf (addf (addf (broadcastInDim S4x2048x2048 ![] bcast_S_S4x2048x2048 (constant S_ .f32 0x00000000#32)) (mulf (extractStridedSlice S4x2048x2048 ![0, 0, 0] (pad S4x2050x2048 ![0, 2, 0] ![0, 0, 0] ![0, 0, 0] (mulf (shapeCast _ (extractStridedSlice S8192x2048 ![0, 2048] Z slices_S8192x20480_S8192x2048_0_2048) shapeCasts_S8192x2048_S4x2048x2048) (shapeCast _ (extractStridedSlice S8192x2048 ![0, 4096] Z slices_S8192x20480_S8192x2048_0_4096) shapeCasts_S8192x2048_S4x2048x2048)) (sitofp .f32 (constantI S_ 32 0#32)) pads_S4x2048x2048_S4x2050x2048_000_200_000 h_S_) slices_S4x2050x2048_S4x2048x2048_0_0_0) (broadcastInDim S4x2048x2048 ![0, 1, 2] bcast_S1x1x2048_S4x2048x2048_0_1_2 (broadcastInDim S1x1x2048 ![2] bcast_S2048_S1x1x2048_2 (shapeCast _ (extractStridedSlice S1x2048 ![0, 0] W slices_S3x2048_S1x2048_0_0) shapeCasts_S1x2048_S2048))))) (mulf (extractStridedSlice S4x2048x2048 ![0, 1, 0] (pad S4x2050x2048 ![0, 2, 0] ![0, 0, 0] ![0, 0, 0] (mulf (shapeCast _ (extractStridedSlice S8192x2048 ![0, 2048] Z slices_S8192x20480_S8192x2048_0_2048) shapeCasts_S8192x2048_S4x2048x2048) (shapeCast _ (extractStridedSlice S8192x2048 ![0, 4096] Z slices_S8192x20480_S8192x2048_0_4096) shapeCasts_S8192x2048_S4x2048x2048)) (sitofp .f32 (constantI S_ 32 0#32)) pads_S4x2048x2048_S4x2050x2048_000_200_000 h_S_) slices_S4x2050x2048_S4x2048x2048_0_1_0) (broadcastInDim S4x2048x2048 ![0, 1, 2] bcast_S1x1x2048_S4x2048x2048_0_1_2 (broadcastInDim S1x1x2048 ![2] bcast_S2048_S1x1x2048_2 (shapeCast _ (extractStridedSlice S1x2048 ![1, 0] W slices_S3x2048_S1x2048_1_0) shapeCasts_S1x2048_S2048))))) (mulf (extractStridedSlice S4x2048x2048 ![0, 2, 0] (pad S4x2050x2048 ![0, 2, 0] ![0, 0, 0] ![0, 0, 0] (mulf (shapeCast _ (extractStridedSlice S8192x2048 ![0, 2048] Z slices_S8192x20480_S8192x2048_0_2048) shapeCasts_S8192x2048_S4x2048x2048) (shapeCast _ (extractStridedSlice S8192x2048 ![0, 4096] Z slices_S8192x20480_S8192x2048_0_4096) shapeCasts_S8192x2048_S4x2048x2048)) (sitofp .f32 (constantI S_ 32 0#32)) pads_S4x2048x2048_S4x2050x2048_000_200_000 h_S_) slices_S4x2050x2048_S4x2048x2048_0_2_0) (broadcastInDim S4x2048x2048 ![0, 1, 2] bcast_S1x1x2048_S4x2048x2048_0_1_2 (broadcastInDim S1x1x2048 ![2] bcast_S2048_S1x1x2048_2 (shapeCast _ (extractStridedSlice S1x2048 ![2, 0] W slices_S3x2048_S1x2048_2_0) shapeCasts_S1x2048_S2048)))))) shapeCasts_S4x2048x2048_S8192x2048) bitsLt_bf16_f32

end Cert.ConvRefIdeal.Whole

namespace Cert.ConvIdeal.Taps

open Cert.ConvIdeal Cert.ConvIdeal.Gen Cert.ConvRefIdeal.Whole

variable (m : (ℓ : Loc nD τ sig) → Buf (Elt Ideal) ℓ)

/-- The five windows' block indices at a grid point. -/
theorem block_index : ∀ t : Fin cfg0.N, win0_0.index t = ![(grid0.coords t 0).val, (grid0.coords t 1).val]
    ∧ win0_1.index t = ![(grid0.coords t 0).val, 8 + (grid0.coords t 1).val]
    ∧ win0_2.index t = ![(grid0.coords t 0).val, 16 + (grid0.coords t 1).val]
    ∧ win0_3.index t = ![0, (grid0.coords t 1).val]
    ∧ win0_4.index t = ![(grid0.coords t 0).val, (grid0.coords t 1).val] :=
  (by decide +kernel : ∀ t : Fin grid0.N, _)

/-- A grid point's block of the first factor. -/
abbrev left (c : Dev nD) (t : Fin cfg0.N) : FVec Ideal S2048x256 .f32 := iblk m c 1 t
/-- Its block of the second factor. -/
abbrev right (c : Dev nD) (t : Fin cfg0.N) : FVec Ideal S2048x256 .f32 := iblk m c 2 t

/-- The rows, read in the block of the gate, of the two factors, and of the weight. -/
theorem reads (c : Dev nD) (t : Fin cfg0.N) (u : Fin 2048) (v : Fin 256) (a : Fin 3) (p : Fin 8192) (q : Fin 2048)
    (hp : p.val = 2048 * (grid0.coords t 0).val + u.val) (hq : q.val = 256 * (grid0.coords t 1).val + v.val) :
    iblk m c 0 t (ix2 u v) = m ((c : Thread nD τ).loc main_arg0) (ix2 p (⟨q.val, by omega⟩ : Fin 20480))
    ∧ left m c t (ix2 u v) = m ((c : Thread nD τ).loc main_arg0) (ix2 p (⟨2048 + q.val, by omega⟩ : Fin 20480))
    ∧ right m c t (ix2 u v) = m ((c : Thread nD τ).loc main_arg0) (ix2 p (⟨4096 + q.val, by omega⟩ : Fin 20480))
    ∧ iblk m c 3 t (ix2 a v) = m ((c : Thread nD τ).loc main_arg1) (ix2 a q) := by
  refine ⟨?_, ?_, ?_, ?_⟩
  all_goals blk_point [left, right, iblk, V, block_index t]

/-- A choice by the bit of a condition is a choice by the condition. -/
theorem pick (P : Prop) [Decidable P] (x y : EReal) : Scalar.select (BitVec.ofBool (decide P)) x y = if P then x else y := by
  by_cases h : P <;> simp [h, Scalar.select]

/-- The padding value is zero. -/
theorem zero_word : (FloatOps.sitofp .f32 0#32 : Ideal .f32) = (0 : EReal) := by
  show (((0#32 : BitVec 32).toInt : ℝ) : EReal) = 0
  simp

/-- A tap of the convolution at row `p`, `k` rows back, where the sequence has such a row. -/
def tap (Z : FVec Ideal S8192x20480 .f32) (s : Nat) (k : Nat) (p : Fin 8192) (q : Fin 2048) : EReal :=
  if k ≤ s then Z (ix2 (⟨p.val - k, by omega⟩ : Fin 8192) (⟨2048 + q.val, by omega⟩ : Fin 20480))
    * Z (ix2 (⟨p.val - k, by omega⟩ : Fin 8192) (⟨4096 + q.val, by omega⟩ : Fin 20480)) else 0

/-- A padded row is a tap: the row `k` back where there is one, zero where there is none. -/
theorem tap_read (Z : FVec Ideal S8192x20480 .f32) (p : Fin 8192) (q : Fin 2048) (k : Nat) (C : Prop) [Decidable C]
    (x : C → Fin 8192) (hC : C ↔ k ≤ p.val % 2048) (hx : ∀ h, (x h).val = p.val - k) :
    (if h : C then Z (ix2 (x h) (⟨2048 + q.val, by omega⟩ : Fin 20480)) * Z (ix2 (x h) (⟨4096 + q.val, by omega⟩ : Fin 20480))
      else (FloatOps.sitofp .f32 0#32 : Ideal .f32) : EReal) = tap Z (p.val % 2048) k p q := by
  unfold tap
  by_cases h : C
  · rw [dif_pos h, if_pos (hC.1 h), show x h = ⟨p.val - k, by omega⟩ from Fin.ext (hx h)]
  · rw [dif_neg h, if_neg fun hk => h (hC.2 hk)]
    exact zero_word

/-- The reference's array at an element, in taps. -/
theorem whole_apply (Z : FVec Ideal S8192x20480 .f32) (W : FVec Ideal S3x2048 .f32) (p : Fin 8192) (q : Fin 2048) :
    whole Z W (ix2 p q) = Z (ix2 p (⟨q.val, by omega⟩ : Fin 20480))
      * (tap Z (p.val % 2048) 2 p q * W (ix2 (0 : Fin 3) q) + tap Z (p.val % 2048) 1 p q * W (ix2 (1 : Fin 3) q)
        + tap Z (p.val % 2048) 0 p q * W (ix2 (2 : Fin 3) q)) := by
  pointwise [whole]
  have hp := p.isLt
  refine congrArg _ (congrArg₂ (· + ·) (congrArg₂ (· + ·) (congrArg (· * _) ?_) (congrArg (· * _) ?_)) (congrArg (· * _) ?_))
  · exact tap_read Z p q 2 _ _ (by omega) (by intro h; dsimp only; omega)
  · exact tap_read Z p q 1 _ _ (by omega) (by intro h; dsimp only; omega)
  · exact tap_read Z p q 0 _ (fun _ => p) (by omega) (by intro h; omega)

/-- What a grid point stores at an element of its block, in the elements of the blocks it reads. -/
theorem pay_apply (a b g : FVec Ideal S2048x256 .f32) (w : FVec Ideal S3x256 .f32) (u : Fin 2048) (v : Fin 256) :
    (k0_pay1 (F := Ideal) a b w g (ix2 u v) : EReal) = g (ix2 u v) * (a (ix2 u v) * b (ix2 u v) * w (ix2 (2 : Fin 3) v)
      + (if 1 ≤ u.val then a (ix2 (⟨(u.val + 2048 - 1) % 2048, by omega⟩ : Fin 2048) v) * b (ix2 (⟨(u.val + 2048 - 1) % 2048, by omega⟩ : Fin 2048) v) else 0) * w (ix2 (1 : Fin 3) v)
      + (if 2 ≤ u.val then a (ix2 (⟨(u.val + 2048 - 2) % 2048, by omega⟩ : Fin 2048) v) * b (ix2 (⟨(u.val + 2048 - 2) % 2048, by omega⟩ : Fin 2048) v) else 0) * w (ix2 (0 : Fin 3) v)) := by
  pointwise [k0_pay1]
  rw [WordCmp.cmpi_sge_ofNat (by omega) (by omega), WordCmp.cmpi_sge_ofNat (by omega) (by omega), pick, pick, ite_mul, ite_mul,
    zero_mul, zero_mul]

/-- What a grid point stores at an element of its block is the whole array at the place of that element. -/
theorem point (c : Dev nD) (t : Fin cfg0.N) (y) : k0_pay1 (iblk m c 1 t) (iblk m c 2 t) (iblk m c 3 t) (iblk m c 0 t) y
    = whole (m ((c : Thread nD τ).loc main_arg0))
        (m ((c : Thread nD τ).loc main_arg1)) (((cfg0.win 4).blk t).view.emb y) := by
  obtain ⟨p, q, hp, hq, e⟩ : ∃ p : Fin 8192, ∃ q : Fin 2048, p.val = 2048 * (grid0.coords t 0).val + (y 0).val
      ∧ q.val = 256 * (grid0.coords t 1).val + (y 1).val ∧ ((cfg0.win 4).blk t).view.emb y = ix2 p q :=
    ⟨((cfg0.win 4).blk t).view.emb y 0, ((cfg0.win 4).blk t).view.emb y 1, by blk_simp [block_index t]; omega,
      by blk_simp [block_index t]; omega, eq_ix2 _⟩
  have hb : (grid0.coords t 0).val < 4 := (grid0.coords t 0).isLt
  rw [e]
  obtain ⟨u, v, rfl⟩ : ∃ (u : Fin 2048) (v : Fin 256), y = ix2 u v := ⟨y 0, y 1, eq_ix2 y⟩
  change p.val = 2048 * (grid0.coords t 0).val + u.val at hp
  change q.val = 256 * (grid0.coords t 1).val + v.val at hq
  refine (pay_apply (left m c t) (right m c t) _ _ u v).trans (Eq.trans ?_ (whole_apply _ _ p q).symm)
  obtain ⟨g, a0, b0, w2⟩ := reads m c t u v 2 p q hp hq
  have w1 := (reads m c t u v 1 p q hp hq).2.2.2
  have w0 := (reads m c t u v 0 p q hp hq).2.2.2
  have back : ∀ k : Nat, k ≤ 2048 → (if k ≤ u.val then left m c t (ix2 (⟨(u.val + 2048 - k) % 2048, by omega⟩ : Fin 2048) v)
      * right m c t (ix2 (⟨(u.val + 2048 - k) % 2048, by omega⟩ : Fin 2048) v) else 0)
      = tap (m ((c : Thread nD τ).loc main_arg0)) (p.val % 2048) k p q := by
    intro k hk
    unfold tap
    rw [show p.val % 2048 = u.val by omega]
    by_cases h : k ≤ u.val
    · obtain ⟨-, a, b, -⟩ := reads m c t ⟨(u.val + 2048 - k) % 2048, by omega⟩ v 0 ⟨p.val - k, by omega⟩ q
        (by dsimp only; omega) hq
      rw [if_pos h, if_pos h, a, b]
    · rw [if_neg h, if_neg h]
  have h0 : tap (m ((c : Thread nD τ).loc main_arg0)) (p.val % 2048) 0 p q = left m c t (ix2 u v) * right m c t (ix2 u v) := by
    rw [a0, b0]; exact if_pos (Nat.zero_le _)
  rw [back 1 (by omega), back 2 (by omega), h0, g, w0, w1, w2]
  exact congrArg _ (by abel)

/-- The result array after the run is the whole array of the arguments. -/
theorem final (c : Dev nD) : (dats m 0 c).arrAt 4 (cfgs 0).N
    = whole (m ((c : Thread nD τ).loc main_arg0))
        (m ((c : Thread nD τ).loc main_arg1)) := by
  refine (dats m 0 c).arrAt_eq_of_covers 4 _ (by decide +kernel) fun t _ y => ?_
  blk_simp
  rw [after0_4]; frame_out
  exact point m c t y

end Cert.ConvIdeal.Taps

/-- The kernel's gated convolution and the reference's, exact, give the same array. -/
theorem Cert.Proof.convolution : Cert.algebraic_ConvIdeal_ConvRefIdeal (hConvIdeal := Cert.ConvIdeal.Gen.facts)
    (hConvRefIdeal := Cert.ConvRefIdeal.Gen.facts) := by
  pair_intro
  · run_from Cert.ConvIdeal.Gen.run_main m g
  · run_from Cert.ConvRefIdeal.Value.run m' g'
    exact (Cert.ConvIdeal.Taps.final m c).symm

end
-- ==== Proof.PeerMix.lean ====
/- The experts' weighted hidden units summed: the kernel's chunks of experts make the whole sum. -/
module

public import proofs.«01_k».proof.Defs
public import proofs.«01_k».proof.Proof.Gen.PeerMixIdeal.Frame
public import proofs.«01_k».proof.Proof.Gen.PeerMixRefIdeal.Run
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PeerMixRefIdeal.Whole

open Cert.PeerMixRefIdeal Cert.PeerMixRefIdeal.Gen

/-- The experts' hidden units, times their gates, times their value rows, summed. -/
abbrev whole (X : FVec Ideal S8192x4096 .bf16) (U W : FVec Ideal S16384x4096 .f32) (S T E G : FVec Ideal S8x128x8192 .f32) (B : FVec Ideal S8x1x8192 .f32) : FVec Ideal S8192x4096 .f32 :=
  Host.dotGeneral dot_S8192x16384_S16384x4096_S8192x4096_1_0_0_1_n_n none (mulf (mulf (mulf (broadcastInDim S8192x16384 ![] bcast_S_S8192x16384 (constant S_ .f32 0x3F000000#32)) (Host.dotGeneral dot_S8192x4096_S4096x16384_S8192x16384_1_0_0_1_n_n none (extf .f32 X bitsLt_bf16_f32) (transpose S4096x16384 [1, 0] U transposes_S16384x4096_S4096x16384_1_0))) (Host.erfc (mulf (Host.negf (Host.dotGeneral dot_S8192x4096_S4096x16384_S8192x16384_1_0_0_1_n_n none (extf .f32 X bitsLt_bf16_f32) (transpose S4096x16384 [1, 0] U transposes_S16384x4096_S4096x16384_1_0))) (broadcastInDim S8192x16384 ![] bcast_S_S8192x16384 (constant S_ .f32 0x3F3504F3#32))))) (transpose S8192x16384 [1, 0] (shapeCast _ (Host.reduceAdd (select (cmpf .oge (addf (broadcastInDim S8x128x128x8192 ![0, 1, 2, 3] bcast_S8x128x1x8192_S8x128x128x8192_0_1_2_3 (broadcastInDim S8x128x1x8192 ![0, 1, 3] bcast_S8x128x8192_S8x128x1x8192_0_1_3 S)) (broadcastInDim S8x128x128x8192 ![0, 1, 2, 3] bcast_S8x1x128x8192_S8x128x128x8192_0_1_2_3 (broadcastInDim S8x1x128x8192 ![0, 2, 3] bcast_S8x128x8192_S8x1x128x8192_0_2_3 T))) (broadcastInDim S8x128x128x8192 ![0, 1, 2, 3] bcast_S8x1x1x8192_S8x128x128x8192_0_1_2_3 (broadcastInDim S8x1x1x8192 ![0, 1, 3] bcast_S8x1x8192_S8x1x1x8192_0_1_3 B))) (mulf (broadcastInDim S8x128x128x8192 ![0, 1, 2, 3] bcast_S8x128x1x8192_S8x128x128x8192_0_1_2_3 (broadcastInDim S8x128x1x8192 ![0, 1, 3] bcast_S8x128x8192_S8x128x1x8192_0_1_3 E)) (broadcastInDim S8x128x128x8192 ![0, 1, 2, 3] bcast_S8x1x128x8192_S8x128x128x8192_0_1_2_3 (broadcastInDim S8x1x128x8192 ![0, 2, 3] bcast_S8x128x8192_S8x1x128x8192_0_2_3 G))) (broadcastInDim S8x128x128x8192 ![] bcast_S_S8x128x128x8192 (id (constant S_ .f32 0x00000000#32)))) (constant S_ .f32 0x00000000#32) reducesTo_S8x128x128x8192_S128x128x8192_d0 h_S_) shapeCasts_S128x128x8192_S16384x8192) transposes_S16384x8192_S8192x16384_1_0)) W

end Cert.PeerMixRefIdeal.Whole

namespace Cert.PeerMixIdeal.Sum

open Cert.PeerMixIdeal Cert.PeerMixIdeal.Gen Cert.PeerMixRefIdeal.Whole

variable (m : (ℓ : Loc nD τ sig) → Buf (Elt Ideal) ℓ)

/-- The part of one head in an expert's gate: the product of the two factors when the head's score reaches its bar. -/
def share (a b bar x y : EReal) : EReal := if bar ≤ a + b then x * y else 0

/-- The exact Gaussian-error unit. -/
def unit (z : EReal) : EReal := Ideal.ofBits .f32 1056964608#32 * z * (1 + Ideal.erf (z * Ideal.ofBits .f32 1060439283#32))

section Gates

variable (s0 s1 s2 s3 s4 s5 s6 s7 e0 e1 e2 e3 e4 e5 e6 e7 d0 d1 d2 d3 d4 d5 d6 d7 : Vec Ideal S1x1x512 .f32)
  (p0 p1 p2 p3 p4 p5 p6 p7 q0 q1 q2 q3 q4 q5 q6 q7 : Vec Ideal S1x128x512 .f32) (j : Fin 128) (i : Fin 512)

/-- The share of a head whose scores and gates are in loaded blocks. -/
abbrev loaded (s : Vec Ideal S1x1x512 .f32) (p : Vec Ideal S1x128x512 .f32) (d e : Vec Ideal S1x1x512 .f32)
    (q : Vec Ideal S1x128x512 .f32) (j : Fin 128) (i : Fin 512) : EReal :=
  share (s (ix3 0 0 i)) (p (ix3 0 j i)) (d (ix3 0 0 i)) (e (ix3 0 0 i)) (q (ix3 0 j i))

/-- The eight heads' shares of an expert. -/
abbrev eight : EReal := loaded s0 p0 d0 e0 q0 j i + loaded s1 p1 d1 e1 q1 j i + loaded s2 p2 d2 e2 q2 j i
  + loaded s3 p3 d3 e3 q3 j i + loaded s4 p4 d4 e4 q4 j i + loaded s5 p5 d5 e5 q5 j i + loaded s6 p6 d6 e6 q6 j i
  + loaded s7 p7 d7 e7 q7 j i

/-- The gates of the first row of experts are the heads' shares added. -/
theorem gates_first : (k0_pay16 (k0_pay13 (k0_pay10 (k0_pay6 (k0_pay4 s0 e0 p0 d0 q0) (k0_pay5 s1) e1 p1 d1 q1) (k0_pay7 s2 p2 d2) (k0_pay8 q2) (k0_pay9 e2) s3 e3 p3 d3 q3)
      (k0_pay11 e4) (k0_pay12 s4 p4) d4 q4 s5 e5 p5 d5 q5) (k0_pay14 s6) (k0_pay15 e6) p6 d6 q6 s7 e7 p7 d7 q7) (ix2 j i)
    = eight s0 s1 s2 s3 s4 s5 s6 s7 e0 e1 e2 e3 e4 e5 e6 e7 d0 d1 d2 d3 d4 d5 d6 d7 p0 p1 p2 p3 p4 p5 p6 p7 q0 q1 q2 q3 q4 q5 q6 q7 j i := by
  pointwise [k0_pay4, k0_pay5, k0_pay6, k0_pay7, k0_pay8, k0_pay9, k0_pay10, k0_pay11, k0_pay12, k0_pay13, k0_pay14, k0_pay15, k0_pay16, eight, loaded, share]

/-- The gates of the second row of experts are the heads' shares added. -/
theorem gates_second : (k0_pay31 (k0_pay28 (k0_pay24 (k0_pay20 (k0_pay18 s0 e0 p0 d0 q0) (k0_pay19 s1) e1 p1 d1 q1) (k0_pay21 s2 p2 d2) (k0_pay22 e2 q2) k0_pay23 s3 e3 p3 d3 q3)
      (k0_pay25 e4) (k0_pay26 s4 p4) (k0_pay27 d4) q4 s5 e5 p5 d5 q5) (k0_pay29 s6) (k0_pay30 e6) p6 d6 q6 s7 e7 p7 d7 q7) (ix2 j i)
    = eight s0 s1 s2 s3 s4 s5 s6 s7 e0 e1 e2 e3 e4 e5 e6 e7 d0 d1 d2 d3 d4 d5 d6 d7 p0 p1 p2 p3 p4 p5 p6 p7 q0 q1 q2 q3 q4 q5 q6 q7 j i := by
  pointwise [k0_pay18, k0_pay19, k0_pay20, k0_pay21, k0_pay22, k0_pay23, k0_pay24, k0_pay25, k0_pay26, k0_pay27, k0_pay28, k0_pay29, k0_pay30, k0_pay31, eight, loaded, share]

/-- The gates of the third row of experts are the heads' shares added. -/
theorem gates_third : (k0_pay46 (k0_pay42 (k0_pay39 (k0_pay38 (k0_pay35 s0 e0 p0 d0 q0) (k0_pay36 s1) (k0_pay37 e1) p1 d1 q1 s2 e2 p2 d2 q2) s3 e3 p3 d3 q3)
      (k0_pay40 e4) (k0_pay41 s4 p4 d4) q4 s5 e5 p5 d5 q5) (k0_pay43 e6) (k0_pay44 p6) (k0_pay45 s6) d6 q6 s7 e7 p7 d7 q7) (ix2 j i)
    = eight s0 s1 s2 s3 s4 s5 s6 s7 e0 e1 e2 e3 e4 e5 e6 e7 d0 d1 d2 d3 d4 d5 d6 d7 p0 p1 p2 p3 p4 p5 p6 p7 q0 q1 q2 q3 q4 q5 q6 q7 j i := by
  pointwise [k0_pay35, k0_pay36, k0_pay37, k0_pay38, k0_pay39, k0_pay40, k0_pay41, k0_pay42, k0_pay43, k0_pay44, k0_pay45, k0_pay46, eight, loaded, share]

/-- The gates of the fourth row of experts are the heads' shares added. -/
theorem gates_fourth : (k0_pay62 (k0_pay59 (k0_pay55 (k0_pay54 (k0_pay51 s0 e0 p0 d0 q0) (k0_pay52 s1) (k0_pay53 e1) p1 d1 q1 s2 e2 p2 d2 q2) s3 e3 p3 d3 q3)
      (k0_pay56 e4) (k0_pay57 s4 p4 d4) (k0_pay58 q4) s5 e5 p5 d5 q5) (k0_pay60 e6) (k0_pay61 s6 p6) d6 q6 s7 e7 p7 d7 q7) (ix2 j i)
    = eight s0 s1 s2 s3 s4 s5 s6 s7 e0 e1 e2 e3 e4 e5 e6 e7 d0 d1 d2 d3 d4 d5 d6 d7 p0 p1 p2 p3 p4 p5 p6 p7 q0 q1 q2 q3 q4 q5 q6 q7 j i := by
  pointwise [k0_pay51, k0_pay52, k0_pay53, k0_pay54, k0_pay55, k0_pay56, k0_pay57, k0_pay58, k0_pay59, k0_pay60, k0_pay61, k0_pay62, eight, loaded, share]

end Gates

/-- The row of the first halves' scores and gates that a grid point reads for its first row of experts, head by head. -/
theorem row_first : ∀ t : Fin cfg0.N, k0_off1 (grid0.coords t) 0#32 = ![0, 4 * (t.val % 32) + 0, 0]
    ∧ k0_off2 (grid0.coords t) 0#32 = ![1, 4 * (t.val % 32) + 0, 0]
    ∧ k0_off3 (grid0.coords t) 0#32 = ![2, 4 * (t.val % 32) + 0, 0]
    ∧ k0_off4 (grid0.coords t) 0#32 = ![3, 4 * (t.val % 32) + 0, 0]
    ∧ k0_off5 (grid0.coords t) 0#32 = ![4, 4 * (t.val % 32) + 0, 0]
    ∧ k0_off6 (grid0.coords t) 0#32 = ![5, 4 * (t.val % 32) + 0, 0]
    ∧ k0_off7 (grid0.coords t) 0#32 = ![6, 4 * (t.val % 32) + 0, 0]
    ∧ k0_off8 (grid0.coords t) 0#32 = ![7, 4 * (t.val % 32) + 0, 0] :=
  (by decide +kernel : ∀ t : Fin grid0.N, _)

/-- The row of the first halves' scores and gates that a grid point reads for its second row of experts, head by head. -/
theorem row_second : ∀ t : Fin cfg0.N, k0_off1 (grid0.coords t) 1#32 = ![0, 4 * (t.val % 32) + 1, 0]
    ∧ k0_off2 (grid0.coords t) 1#32 = ![1, 4 * (t.val % 32) + 1, 0]
    ∧ k0_off3 (grid0.coords t) 1#32 = ![2, 4 * (t.val % 32) + 1, 0]
    ∧ k0_off4 (grid0.coords t) 1#32 = ![3, 4 * (t.val % 32) + 1, 0]
    ∧ k0_off5 (grid0.coords t) 1#32 = ![4, 4 * (t.val % 32) + 1, 0]
    ∧ k0_off6 (grid0.coords t) 1#32 = ![5, 4 * (t.val % 32) + 1, 0]
    ∧ k0_off7 (grid0.coords t) 1#32 = ![6, 4 * (t.val % 32) + 1, 0]
    ∧ k0_off8 (grid0.coords t) 1#32 = ![7, 4 * (t.val % 32) + 1, 0] :=
  (by decide +kernel : ∀ t : Fin grid0.N, _)

/-- The row of the first halves' scores and gates that a grid point reads for its third row of experts, head by head. -/
theorem row_third : ∀ t : Fin cfg0.N, k0_off1 (grid0.coords t) 2#32 = ![0, 4 * (t.val % 32) + 2, 0]
    ∧ k0_off2 (grid0.coords t) 2#32 = ![1, 4 * (t.val % 32) + 2, 0]
    ∧ k0_off3 (grid0.coords t) 2#32 = ![2, 4 * (t.val % 32) + 2, 0]
    ∧ k0_off4 (grid0.coords t) 2#32 = ![3, 4 * (t.val % 32) + 2, 0]
    ∧ k0_off5 (grid0.coords t) 2#32 = ![4, 4 * (t.val % 32) + 2, 0]
    ∧ k0_off6 (grid0.coords t) 2#32 = ![5, 4 * (t.val % 32) + 2, 0]
    ∧ k0_off7 (grid0.coords t) 2#32 = ![6, 4 * (t.val % 32) + 2, 0]
    ∧ k0_off8 (grid0.coords t) 2#32 = ![7, 4 * (t.val % 32) + 2, 0] :=
  (by decide +kernel : ∀ t : Fin grid0.N, _)

/-- The row of the first halves' scores and gates that a grid point reads for its fourth row of experts, head by head. -/
theorem row_fourth : ∀ t : Fin cfg0.N, k0_off1 (grid0.coords t) 3#32 = ![0, 4 * (t.val % 32) + 3, 0]
    ∧ k0_off2 (grid0.coords t) 3#32 = ![1, 4 * (t.val % 32) + 3, 0]
    ∧ k0_off3 (grid0.coords t) 3#32 = ![2, 4 * (t.val % 32) + 3, 0]
    ∧ k0_off4 (grid0.coords t) 3#32 = ![3, 4 * (t.val % 32) + 3, 0]
    ∧ k0_off5 (grid0.coords t) 3#32 = ![4, 4 * (t.val % 32) + 3, 0]
    ∧ k0_off6 (grid0.coords t) 3#32 = ![5, 4 * (t.val % 32) + 3, 0]
    ∧ k0_off7 (grid0.coords t) 3#32 = ![6, 4 * (t.val % 32) + 3, 0]
    ∧ k0_off8 (grid0.coords t) 3#32 = ![7, 4 * (t.val % 32) + 3, 0] :=
  (by decide +kernel : ∀ t : Fin grid0.N, _)

/-- The nine windows' block indices at a grid point. -/
theorem block_index : ∀ t : Fin cfg0.N, win0_0.index t = ![t.val / 32, 0]
    ∧ win0_1.index t = ![t.val % 32, 0]
    ∧ win0_2.index t = ![t.val % 32, 0]
    ∧ win0_3.index t = ![0, 0, t.val / 32]
    ∧ win0_4.index t = ![0, 0, t.val / 32]
    ∧ win0_5.index t = ![0, 0, t.val / 32]
    ∧ win0_6.index t = ![0, 0, t.val / 32]
    ∧ win0_7.index t = ![0, 0, t.val / 32]
    ∧ win0_8.index t = ![t.val / 32, 0] :=
  (by decide +kernel : ∀ t : Fin grid0.N, _)

/-- A head's share in the gate of an expert for a token, in the whole arrays. -/
def whole_share (c : Dev nD) (h : Fin 8) (k : Fin 8192) (r j : Fin 128) : EReal :=
  share (m ((c : Thread nD τ).loc main_arg3) (ix3 h r k)) (m ((c : Thread nD τ).loc main_arg4) (ix3 h j k))
    (m ((c : Thread nD τ).loc main_arg7) (ix3 h 0 k)) (m ((c : Thread nD τ).loc main_arg5) (ix3 h r k))
    (m ((c : Thread nD τ).loc main_arg6) (ix3 h j k))

/-- A head's share at a grid point, read from the whole arrays. -/
theorem head (c : Dev nD) (t : Fin cfg0.N) (h : Fin 8) (r j : Fin 128) (i : Fin 512) (k : Fin 8192)
    (hk : (k : ℕ) = 512 * (t.val / 32) + i) (o o' : Fin 3 → ℕ) (ho : o = ![(h : ℕ), (r : ℕ), 0]) (ho' : o' = ![(h : ℕ), 0, 0])
    (b₁ b₂ b₃ b₄ b₅) :
    loaded (View.ld (iblk m c 3 t) (Rect.unit o ![1, 1, 512] b₁)) (View.ld (iblk m c 4 t) (Rect.unit o' ![1, 128, 512] b₂))
      (View.ld (iblk m c 7 t) (Rect.unit o' ![1, 1, 512] b₃)) (View.ld (iblk m c 5 t) (Rect.unit o ![1, 1, 512] b₄))
      (View.ld (iblk m c 6 t) (Rect.unit o' ![1, 128, 512] b₅)) j i
    = whole_share m c h k r j := by
  subst ho ho'
  unfold loaded whole_share
  congr 1
  · blk_point [iblk, V, block_index t]
  · blk_point [iblk, V, block_index t]
  · blk_point [iblk, V, block_index t]
  · blk_point [iblk, V, block_index t]
  · blk_point [iblk, V, block_index t]

/-- An expert's gate for a token: the heads' shares added. -/
def gate (c : Dev nD) (k : Fin 8192) (r j : Fin 128) : EReal := ∑ h : Fin 8, whole_share m c h k r j

/-- An expert's hidden unit for a token, weighted by a gate, times an entry of the expert's value row. -/
def weighted (X : FVec Ideal S8192x4096 .bf16) (U W : FVec Ideal S16384x4096 .f32) (g : EReal) (k : Fin 8192) (l : Fin 4096) (n : Fin 16384) : EReal :=
  unit (∑ x : Fin 4096, U (ix2 n x) * X (ix2 k x)) * g * W (ix2 n l)

/-- An expert's part in an entry of the result. -/
def term (c : Dev nD) (k : Fin 8192) (l : Fin 4096) (n : Fin 16384) : EReal :=
  weighted (m ((c : Thread nD τ).loc main_arg0)) (m ((c : Thread nD τ).loc main_arg1)) (m ((c : Thread nD τ).loc main_arg2))
    (gate m c k ⟨n / 128, by omega⟩ ⟨n % 128, by omega⟩) k l n

/-- A chunk's payload at an element: what was there, and the sum over the chunk's experts. -/
theorem chunk (X U W : Vec Ideal S512x4096 .bf16) (A : Vec Ideal S512x4096 .f32) (G0 G1 G2 G3 : FVec Ideal S128x512 .f32) (y : S512x4096.Idx) :
    k0_pay1 (k0_pay17 (k0_pay3 U X) G0) (k0_pay34 G1 (k0_pay32 (k0_pay3 U X)) k0_pay33)
      (k0_pay50 G2 (k0_pay47 (k0_pay3 U X)) (k0_pay48 (k0_pay3 U X)) k0_pay49) G3 (k0_pay64 (k0_pay3 U X)) (k0_pay65 (k0_pay3 U X))
      (FloatOps.ofBits FTy.f32 1065353216#32) A W y
    = A y + ∑ x : Fin 512, unit (∑ l : Fin 4096, U (ix2 x l) * X (ix2 (y 0) l))
        * (if h : x.val < 128 then G0 (ix2 ⟨x, h⟩ (y 0)) else if h : x.val - 128 < 128 then G1 (ix2 ⟨x - 128, h⟩ (y 0))
            else if h : x.val - 128 - 128 < 128 then G2 (ix2 ⟨x - 128 - 128, h⟩ (y 0))
            else G3 (ix2 ⟨x - 128 - 128 - 128, by omega⟩ (y 0))) * W (ix2 x (y 1)) := by
  pointwise [k0_pay1, k0_pay17, k0_pay34, k0_pay32, k0_pay33, k0_pay50, k0_pay47, k0_pay48, k0_pay49, k0_pay63, k0_pay64, k0_pay65, k0_pay3]
  refine congrArg₂ (· + ·) rfl (Finset.sum_congr rfl fun x _ => congrArg₂ (· * ·) ?_ rfl)
  have hx := x.isLt
  split_ifs
  all_goals first
    | (rename_i hz; exact absurd rfl hz)
    | (refine congrArg₂ (· * ·) ?_ rfl
       unfold unit
       refine congrArg₂ (· * ·) (congrArg (_ * ·) ?_) (congrArg (1 + ·) (congrArg Ideal.erf (congrArg (· * _) ?_)))
       all_goals exact Finset.sum_congr rfl fun l _ => congrArg₂ (· * ·) (congrArg U (congrArg (ix2 · l) (Fin.ext (by first | rfl | (dsimp only; omega))))) rfl)

/-- Eight loaded shares that are the whole arrays' are the whole gate. -/
theorem eight_eq (c : Dev nD) (s0 s1 s2 s3 s4 s5 s6 s7 e0 e1 e2 e3 e4 e5 e6 e7 d0 d1 d2 d3 d4 d5 d6 d7 : Vec Ideal S1x1x512 .f32)
    (p0 p1 p2 p3 p4 p5 p6 p7 q0 q1 q2 q3 q4 q5 q6 q7 : Vec Ideal S1x128x512 .f32) (j r : Fin 128) (i : Fin 512) (k : Fin 8192)
    (h0 : loaded s0 p0 d0 e0 q0 j i = whole_share m c 0 k r j)
    (h1 : loaded s1 p1 d1 e1 q1 j i = whole_share m c 1 k r j)
    (h2 : loaded s2 p2 d2 e2 q2 j i = whole_share m c 2 k r j)
    (h3 : loaded s3 p3 d3 e3 q3 j i = whole_share m c 3 k r j)
    (h4 : loaded s4 p4 d4 e4 q4 j i = whole_share m c 4 k r j)
    (h5 : loaded s5 p5 d5 e5 q5 j i = whole_share m c 5 k r j)
    (h6 : loaded s6 p6 d6 e6 q6 j i = whole_share m c 6 k r j)
    (h7 : loaded s7 p7 d7 e7 q7 j i = whole_share m c 7 k r j) :
    eight s0 s1 s2 s3 s4 s5 s6 s7 e0 e1 e2 e3 e4 e5 e6 e7 d0 d1 d2 d3 d4 d5 d6 d7 p0 p1 p2 p3 p4 p5 p6 p7 q0 q1 q2 q3 q4 q5 q6 q7 j i = gate m c k r j := by
  unfold eight gate
  rw [Fin.sum_univ_eight, h0, h1, h2, h3, h4, h5, h6, h7]

/-- A grid point's part of the result: the sum over its chunk's experts. -/
def part (c : Dev nD) (t : Fin cfg0.N) (y : S512x4096.Idx) : EReal :=
  ∑ x : Fin 512, term m c ⟨(512 * (t.val / 32) + (y 0).val) % 8192, by omega⟩ (y 1) ⟨512 * (t.val % 32) + x, by omega⟩

/-- The gate at equal places. -/
theorem gate_congr (c : Dev nD) {k k' : Fin 8192} {r r' j j' : Fin 128} (hk : (k : ℕ) = k') (hr : (r : ℕ) = r') (hj : (j : ℕ) = j') :
    gate m c k r j = gate m c k' r' j' := by
  rw [Fin.ext hk, Fin.ext hr, Fin.ext hj]

/-- At a later chunk of a block of tokens, the point adds its part to what was there. -/
theorem stepB (c : Dev nD) (t : Fin cfg0.N) (h : ¬ t.val % 32 = 0) (y : S512x4096.Idx) :
    outsAt0 m c t.val t.isLt y = outsAt0 m c (t.val - 1) (lt_of_le_of_lt (Nat.sub_le _ _) t.isLt) y + part m c t y := by
  have ht : t.val < 512 := lt_of_lt_of_eq t.isLt N_0
  have hy : (y 0).val < 512 := (y 0).isLt
  rw [outsAt0_B m c t h]; frame_out
  rw [chunk]
  refine congrArg₂ (· + ·) rfl (Finset.sum_congr rfl fun x _ => congrArg₂ (· * ·) (congrArg₂ (· * ·) (congrArg unit
    (Finset.sum_congr rfl fun l _ => congrArg₂ (· * ·) ?_ ?_)) ?_) ?_)
  · blk_point [iblk, V, block_index t]
  · blk_point [iblk, V, block_index t]
  · have hx := x.isLt
    split_ifs with h0 h1 h2
    · refine (gates_first _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 0, by omega⟩ _ ⟨512 * (t.val / 32) + (y 0).val, by omega⟩
        (head m c t 0 _ _ _ _ rfl _ _ (row_first t).1 rfl _ _ _ _ _) (head m c t 1 _ _ _ _ rfl _ _ (row_first t).2.1 rfl _ _ _ _ _) (head m c t 2 _ _ _ _ rfl _ _ (row_first t).2.2.1 rfl _ _ _ _ _) (head m c t 3 _ _ _ _ rfl _ _ (row_first t).2.2.2.1 rfl _ _ _ _ _) (head m c t 4 _ _ _ _ rfl _ _ (row_first t).2.2.2.2.1 rfl _ _ _ _ _) (head m c t 5 _ _ _ _ rfl _ _ (row_first t).2.2.2.2.2.1 rfl _ _ _ _ _) (head m c t 6 _ _ _ _ rfl _ _ (row_first t).2.2.2.2.2.2.1 rfl _ _ _ _ _) (head m c t 7 _ _ _ _ rfl _ _ (row_first t).2.2.2.2.2.2.2 rfl _ _ _ _ _)).trans ?_)
      exact gate_congr m c (by dsimp only; omega) (by dsimp only; omega) (by dsimp only; omega)
    · refine (gates_second _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 1, by omega⟩ _ ⟨512 * (t.val / 32) + (y 0).val, by omega⟩
        (head m c t 0 _ _ _ _ rfl _ _ (row_second t).1 rfl _ _ _ _ _) (head m c t 1 _ _ _ _ rfl _ _ (row_second t).2.1 rfl _ _ _ _ _) (head m c t 2 _ _ _ _ rfl _ _ (row_second t).2.2.1 rfl _ _ _ _ _) (head m c t 3 _ _ _ _ rfl _ _ (row_second t).2.2.2.1 rfl _ _ _ _ _) (head m c t 4 _ _ _ _ rfl _ _ (row_second t).2.2.2.2.1 rfl _ _ _ _ _) (head m c t 5 _ _ _ _ rfl _ _ (row_second t).2.2.2.2.2.1 rfl _ _ _ _ _) (head m c t 6 _ _ _ _ rfl _ _ (row_second t).2.2.2.2.2.2.1 rfl _ _ _ _ _) (head m c t 7 _ _ _ _ rfl _ _ (row_second t).2.2.2.2.2.2.2 rfl _ _ _ _ _)).trans ?_)
      exact gate_congr m c (by dsimp only; omega) (by dsimp only; omega) (by dsimp only; omega)
    · refine (gates_third _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 2, by omega⟩ _ ⟨512 * (t.val / 32) + (y 0).val, by omega⟩
        (head m c t 0 _ _ _ _ rfl _ _ (row_third t).1 rfl _ _ _ _ _) (head m c t 1 _ _ _ _ rfl _ _ (row_third t).2.1 rfl _ _ _ _ _) (head m c t 2 _ _ _ _ rfl _ _ (row_third t).2.2.1 rfl _ _ _ _ _) (head m c t 3 _ _ _ _ rfl _ _ (row_third t).2.2.2.1 rfl _ _ _ _ _) (head m c t 4 _ _ _ _ rfl _ _ (row_third t).2.2.2.2.1 rfl _ _ _ _ _) (head m c t 5 _ _ _ _ rfl _ _ (row_third t).2.2.2.2.2.1 rfl _ _ _ _ _) (head m c t 6 _ _ _ _ rfl _ _ (row_third t).2.2.2.2.2.2.1 rfl _ _ _ _ _) (head m c t 7 _ _ _ _ rfl _ _ (row_third t).2.2.2.2.2.2.2 rfl _ _ _ _ _)).trans ?_)
      exact gate_congr m c (by dsimp only; omega) (by dsimp only; omega) (by dsimp only; omega)
    · refine (gates_fourth _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 3, by omega⟩ _ ⟨512 * (t.val / 32) + (y 0).val, by omega⟩
        (head m c t 0 _ _ _ _ rfl _ _ (row_fourth t).1 rfl _ _ _ _ _) (head m c t 1 _ _ _ _ rfl _ _ (row_fourth t).2.1 rfl _ _ _ _ _) (head m c t 2 _ _ _ _ rfl _ _ (row_fourth t).2.2.1 rfl _ _ _ _ _) (head m c t 3 _ _ _ _ rfl _ _ (row_fourth t).2.2.2.1 rfl _ _ _ _ _) (head m c t 4 _ _ _ _ rfl _ _ (row_fourth t).2.2.2.2.1 rfl _ _ _ _ _) (head m c t 5 _ _ _ _ rfl _ _ (row_fourth t).2.2.2.2.2.1 rfl _ _ _ _ _) (head m c t 6 _ _ _ _ rfl _ _ (row_fourth t).2.2.2.2.2.2.1 rfl _ _ _ _ _) (head m c t 7 _ _ _ _ rfl _ _ (row_fourth t).2.2.2.2.2.2.2 rfl _ _ _ _ _)).trans ?_)
      exact gate_congr m c (by dsimp only; omega) (by dsimp only; omega) (by dsimp only; omega)
  · blk_point [iblk, V, block_index t]

/-- At the first chunk of a block of tokens, the point leaves its part. -/
theorem stepA (c : Dev nD) (t : Fin cfg0.N) (h : t.val % 32 = 0) (y : S512x4096.Idx) :
    outsAt0 m c t.val t.isLt y = 0 + part m c t y := by
  have ht : t.val < 512 := lt_of_lt_of_eq t.isLt N_0
  have hy : (y 0).val < 512 := (y 0).isLt
  rw [outsAt0_A m c t h]; frame_out
  rw [chunk]
  refine congrArg₂ (· + ·) (by pointwise [k0_pay2]) (Finset.sum_congr rfl fun x _ => congrArg₂ (· * ·) (congrArg₂ (· * ·) (congrArg unit
    (Finset.sum_congr rfl fun l _ => congrArg₂ (· * ·) ?_ ?_)) ?_) ?_)
  · blk_point [iblk, V, block_index t]
  · blk_point [iblk, V, block_index t]
  · have hx := x.isLt
    split_ifs with h0 h1 h2
    · refine (gates_first _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 0, by omega⟩ _ ⟨512 * (t.val / 32) + (y 0).val, by omega⟩
        (head m c t 0 _ _ _ _ rfl _ _ (row_first t).1 rfl _ _ _ _ _) (head m c t 1 _ _ _ _ rfl _ _ (row_first t).2.1 rfl _ _ _ _ _) (head m c t 2 _ _ _ _ rfl _ _ (row_first t).2.2.1 rfl _ _ _ _ _) (head m c t 3 _ _ _ _ rfl _ _ (row_first t).2.2.2.1 rfl _ _ _ _ _) (head m c t 4 _ _ _ _ rfl _ _ (row_first t).2.2.2.2.1 rfl _ _ _ _ _) (head m c t 5 _ _ _ _ rfl _ _ (row_first t).2.2.2.2.2.1 rfl _ _ _ _ _) (head m c t 6 _ _ _ _ rfl _ _ (row_first t).2.2.2.2.2.2.1 rfl _ _ _ _ _) (head m c t 7 _ _ _ _ rfl _ _ (row_first t).2.2.2.2.2.2.2 rfl _ _ _ _ _)).trans ?_)
      exact gate_congr m c (by dsimp only; omega) (by dsimp only; omega) (by dsimp only; omega)
    · refine (gates_second _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 1, by omega⟩ _ ⟨512 * (t.val / 32) + (y 0).val, by omega⟩
        (head m c t 0 _ _ _ _ rfl _ _ (row_second t).1 rfl _ _ _ _ _) (head m c t 1 _ _ _ _ rfl _ _ (row_second t).2.1 rfl _ _ _ _ _) (head m c t 2 _ _ _ _ rfl _ _ (row_second t).2.2.1 rfl _ _ _ _ _) (head m c t 3 _ _ _ _ rfl _ _ (row_second t).2.2.2.1 rfl _ _ _ _ _) (head m c t 4 _ _ _ _ rfl _ _ (row_second t).2.2.2.2.1 rfl _ _ _ _ _) (head m c t 5 _ _ _ _ rfl _ _ (row_second t).2.2.2.2.2.1 rfl _ _ _ _ _) (head m c t 6 _ _ _ _ rfl _ _ (row_second t).2.2.2.2.2.2.1 rfl _ _ _ _ _) (head m c t 7 _ _ _ _ rfl _ _ (row_second t).2.2.2.2.2.2.2 rfl _ _ _ _ _)).trans ?_)
      exact gate_congr m c (by dsimp only; omega) (by dsimp only; omega) (by dsimp only; omega)
    · refine (gates_third _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 2, by omega⟩ _ ⟨512 * (t.val / 32) + (y 0).val, by omega⟩
        (head m c t 0 _ _ _ _ rfl _ _ (row_third t).1 rfl _ _ _ _ _) (head m c t 1 _ _ _ _ rfl _ _ (row_third t).2.1 rfl _ _ _ _ _) (head m c t 2 _ _ _ _ rfl _ _ (row_third t).2.2.1 rfl _ _ _ _ _) (head m c t 3 _ _ _ _ rfl _ _ (row_third t).2.2.2.1 rfl _ _ _ _ _) (head m c t 4 _ _ _ _ rfl _ _ (row_third t).2.2.2.2.1 rfl _ _ _ _ _) (head m c t 5 _ _ _ _ rfl _ _ (row_third t).2.2.2.2.2.1 rfl _ _ _ _ _) (head m c t 6 _ _ _ _ rfl _ _ (row_third t).2.2.2.2.2.2.1 rfl _ _ _ _ _) (head m c t 7 _ _ _ _ rfl _ _ (row_third t).2.2.2.2.2.2.2 rfl _ _ _ _ _)).trans ?_)
      exact gate_congr m c (by dsimp only; omega) (by dsimp only; omega) (by dsimp only; omega)
    · refine (gates_fourth _ _ _ _ _ _ _ _ _ _ _ _ _ _ _ _ _ _ _ _ _ _ _ _ _ _ _ _ _ _ _ _ _ _ _ _ _ _ _ _ _ _).trans ((eight_eq m c _ _ _ _ _ _ _ _ _ _ _ _ _ _ _ _ _ _ _ _ _ _ _ _ _ _ _ _ _ _ _ _ _ _ _ _ _ _ _ _ _ ⟨4 * (t.val % 32) + 3, by omega⟩ _ ⟨512 * (t.val / 32) + (y 0).val, by omega⟩
        (head m c t 0 _ _ _ _ rfl _ _ (row_fourth t).1 rfl _ _ _ _ _) (head m c t 1 _ _ _ _ rfl _ _ (row_fourth t).2.1 rfl _ _ _ _ _) (head m c t 2 _ _ _ _ rfl _ _ (row_fourth t).2.2.1 rfl _ _ _ _ _) (head m c t 3 _ _ _ _ rfl _ _ (row_fourth t).2.2.2.1 rfl _ _ _ _ _) (head m c t 4 _ _ _ _ rfl _ _ (row_fourth t).2.2.2.2.1 rfl _ _ _ _ _) (head m c t 5 _ _ _ _ rfl _ _ (row_fourth t).2.2.2.2.2.1 rfl _ _ _ _ _) (head m c t 6 _ _ _ _ rfl _ _ (row_fourth t).2.2.2.2.2.2.1 rfl _ _ _ _ _) (head m c t 7 _ _ _ _ rfl _ _ (row_fourth t).2.2.2.2.2.2.2 rfl _ _ _ _ _)).trans ?_)
      exact gate_congr m c (by dsimp only; omega) (by dsimp only; omega) (by dsimp only; omega)
  · blk_point [iblk, V, block_index t]

/-- An expert's part at equal places. -/
theorem term_congr (c : Dev nD) {k k' : Fin 8192} {l l' : Fin 4096} {n n' : Fin 16384} (hk : (k : ℕ) = k') (hl : (l : ℕ) = l') (hn : (n : ℕ) = n') :
    term m c k l n = term m c k' l' n' := by
  rw [Fin.ext hk, Fin.ext hl, Fin.ext hn]

/-- The result array after the run: each entry is the sum over all experts. -/
theorem final (c : Dev nD) : (dats m 0 c).arrAt 8 (cfgs 0).N = (fun z => ∑ n : Fin 16384, term m c (z 0) (z 1) n) := by
  refine (dats m 0 c).arrAt_eq_of_covers 8 _ (by decide +kernel) fun t hf y => ?_
  blk_simp
  rw [after0_8, Pipeline.eq_sum_fin_of_reset_step_apply_of_flush (fun n h => outsAt0 m c n h) 32 (fun _ => 0) (fun t y => part m c t y)
    (fun t h j => stepA m c t h j) (fun t h j => stepB m c t h j) t ((flush0_8 t).mp hf) _, zero_add]
  unfold part
  refine Fin.sum_mul_add_congr fun s k hl => ?_
  have ht : t.val < 512 := lt_of_lt_of_eq t.isLt N_0
  have hy : (y 0).val < 512 := (y 0).isLt
  refine term_congr m c ?_ ?_ ?_
  · blk_simp [block_index t]
    dsimp only
    omega
  · blk_simp [block_index t]
  · dsimp only
    omega

/-- The error function is odd, so the complementary one at a negated place is one more. -/
theorem erfc_neg (z : EReal) : Ideal.erfc (-z) = 1 + Ideal.erf z := by
  induction z with
  | bot =>
    rw [EReal.neg_bot, Ideal.erfc_top, Ideal.erf_bot]
    exact (show ((0 : ℝ) : EReal) = ((1 + -1 : ℝ) : EReal) by norm_num)
  | top =>
    rw [EReal.neg_top, Ideal.erfc_bot, Ideal.erf_top]
    exact (show ((2 : ℝ) : EReal) = ((1 + 1 : ℝ) : EReal) by norm_num)
  | coe r =>
    have h : (∫ t in (0 : ℝ)..(-r), Real.exp (-(t ^ 2))) = -∫ t in (0 : ℝ)..r, Real.exp (-(t ^ 2)) := by
      rw [intervalIntegral.integral_symm, ← neg_zero, ← intervalIntegral.integral_comp_neg, neg_zero]
      simp only [neg_sq]
    rw [Ideal.erfc, ← EReal.coe_neg, Ideal.erf_coe, Ideal.erf_coe, h]
    exact (show ((1 - 2 / Real.sqrt Real.pi * -(∫ t in (0 : ℝ)..r, Real.exp (-(t ^ 2))) : ℝ) : EReal)
      = ((1 + 2 / Real.sqrt Real.pi * ∫ t in (0 : ℝ)..r, Real.exp (-(t ^ 2)) : ℝ) : EReal) by congr 1; ring)

/-- The reference's array, entry by entry, is the sum over all experts. -/
theorem whole_apply (c : Dev nD) (z) : whole (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7)) z
    = ∑ n : Fin 16384, term m c (z 0) (z 1) n := by
  pointwise [whole]
  refine Finset.sum_congr rfl fun n _ => ?_
  unfold term weighted gate whole_share share unit
  refine congrArg₂ (· * ·) (congrArg₂ (· * ·) ?_ (Finset.sum_congr rfl fun h _ => ?_)) rfl
  · rw [EReal.neg_mul, erfc_neg]
    refine congrArg₂ (· * ·) (congrArg (_ * ·) ?_) (congrArg (1 + ·) (congrArg Ideal.erf (congrArg (· * _) ?_)))
    all_goals exact Finset.sum_congr rfl fun l _ => mul_comm _ _
  · split_ifs
    · rfl
    · show constant (F := Ideal) Cert.PeerMixRefIdeal.S_ FTy.f32 0#32 ix0 = 0
      pointwise

/-- The result array after the run is the reference's array of the arguments. -/
theorem same (c : Dev nD) : (dats m 0 c).arrAt 8 (cfgs 0).N = whole (m ((c : Thread nD τ).loc main_arg0))
        (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6))
        (m ((c : Thread nD τ).loc main_arg7)) :=
  (final m c).trans (funext fun z => (whole_apply m c z).symm)

end Cert.PeerMixIdeal.Sum

/-- The kernel's expert sum and the reference's, exact, are the same array. -/
theorem Cert.Proof.peer_mix : Cert.algebraic_PeerMixIdeal_PeerMixRefIdeal (hPeerMixIdeal := Cert.PeerMixIdeal.Gen.facts)
    (hPeerMixRefIdeal := Cert.PeerMixRefIdeal.Gen.facts) := by
  pair_intro
  · run_from Cert.PeerMixIdeal.Gen.run_main m g
  · refine Idealize.ShloMosaic.θ_run_mono (Cert.PeerMixRefIdeal.Value.run m' g') ?_
    intro r hr c
    obtain ⟨h, kept⟩ := hr c
    obtain ⟨h0, h1, h2, h3, h4, h5, h6, h7⟩ := hagree c
    refine ⟨h.trans ?_, kept⟩
    rw [h0, h1, h2, h3, h4, h5, h6, h7]
    exact (Cert.PeerMixIdeal.Sum.same m c).symm

end
-- ==== Proof.lean ====
module

public import proofs.«01_k».proof.Defs
public import proofs.«01_k».proof.Proof.Gen.Moba
public import proofs.«01_k».proof.Proof.Gen.Moba.Skeleton
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaRefIdeal
public import proofs.«01_k».proof.Proof.Gen.Pre_finite_scores
public import proofs.«01_k».proof.Proof.Gen.MobaIdeal.Value
public import proofs.«01_k».proof.Proof.Gen.MobaRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.PeerQuery
public import proofs.«01_k».proof.Proof.Gen.PeerQuery.Skeleton
public import proofs.«01_k».proof.Proof.Gen.PeerQuery.Launch
public import proofs.«01_k».proof.Proof.Gen.PeerQuery.Points
public import proofs.«01_k».proof.Proof.Gen.PeerQuery.Frame
public import proofs.«01_k».proof.Proof.Gen.PeerQueryIdeal
public import proofs.«01_k».proof.Proof.Gen.PeerQueryIdeal.Skeleton
public import proofs.«01_k».proof.Proof.Gen.PeerQueryIdeal.Launch
public import proofs.«01_k».proof.Proof.Gen.PeerQueryIdeal.Points
public import proofs.«01_k».proof.Proof.Gen.PeerQueryIdeal.Frame
public import proofs.«01_k».proof.Proof.Gen.PeerQueryRefIdeal
public import proofs.«01_k».proof.Proof.Gen.PeerQueryIdeal.Value
public import proofs.«01_k».proof.Proof.Gen.PeerQueryRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.LastNorm
public import proofs.«01_k».proof.Proof.Gen.LastNorm.Skeleton
public import proofs.«01_k».proof.Proof.Gen.LastNorm.Launch
public import proofs.«01_k».proof.Proof.Gen.LastNorm.Points
public import proofs.«01_k».proof.Proof.Gen.LastNorm.Frame
public import proofs.«01_k».proof.Proof.Gen.LastNormIdeal
public import proofs.«01_k».proof.Proof.Gen.LastNormIdeal.Skeleton
public import proofs.«01_k».proof.Proof.Gen.LastNormIdeal.Launch
public import proofs.«01_k».proof.Proof.Gen.LastNormIdeal.Points
public import proofs.«01_k».proof.Proof.Gen.LastNormIdeal.Frame
public import proofs.«01_k».proof.Proof.Gen.LastNormRefIdeal
public import proofs.«01_k».proof.Proof.Gen.LastNormIdeal.Value
public import proofs.«01_k».proof.Proof.Gen.LastNormRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.PeerMix
public import proofs.«01_k».proof.Proof.Gen.PeerMix.Skeleton
public import proofs.«01_k».proof.Proof.Gen.PeerMix.Launch
public import proofs.«01_k».proof.Proof.Gen.PeerMix.Points
public import proofs.«01_k».proof.Proof.Gen.PeerMix.Frame
public import proofs.«01_k».proof.Proof.Gen.PeerMixIdeal
public import proofs.«01_k».proof.Proof.Gen.PeerMixIdeal.Skeleton
public import proofs.«01_k».proof.Proof.Gen.PeerMixIdeal.Launch
public import proofs.«01_k».proof.Proof.Gen.PeerMixIdeal.Points
public import proofs.«01_k».proof.Proof.Gen.PeerMixIdeal.Frame
public import proofs.«01_k».proof.Proof.Gen.PeerMixRefIdeal
public import proofs.«01_k».proof.Proof.Gen.PeerMixIdeal.Value
public import proofs.«01_k».proof.Proof.Gen.PeerMixRefIdeal.Run
public import proofs.«01_k».proof.Proof.Projection
public import proofs.«01_k».proof.Proof.Attention
public import proofs.«01_k».proof.Proof.OutProjection
public import proofs.«01_k».proof.Proof.PeerQueries
public import proofs.«01_k».proof.Proof.Merge
public import proofs.«01_k».proof.Proof.Norm
public import proofs.«01_k».proof.Proof.LastNorm
public import proofs.«01_k».proof.Proof.Convolution
public import proofs.«01_k».proof.Proof.PeerMix
public import Idealize.ShloMosaic.Lib.Claim
public import Idealize.ShloMosaic.Adequacy
public import Idealize.ShloMosaic.Init

@[expose] public section

noncomputable section

namespace Cert.Proof

open Idealize.ShloMosaic Idealize.SL.Sem

/-- The printed attention kernel runs to its end and leaves its argument. -/
theorem moba_frame : Cert.quiescent_Moba (hMoba := Cert.Moba.Gen.facts) :=
  fun m g _ => Cert.Moba.Gen.frame m g

/-- So does the exact one. -/
theorem mobaIdeal_frame : Cert.quiescent_MobaIdeal (hMobaIdeal := Cert.MobaIdeal.Gen.facts) :=
  fun m g _ => Cert.MobaIdeal.Gen.frame m g

/-- So does the attention's reference. -/
theorem mobaRefIdeal_frame : Cert.quiescent_MobaRefIdeal (hMobaRefIdeal := Cert.MobaRefIdeal.Gen.facts) := fun m g _ =>
  (θ_run Cert.MobaRefIdeal.defs _ _).mono (fun r h => ⟨fun c => (h c).2, sem_eq_zero_of_no_sems (by decide) r.2⟩)
    (Cert.MobaRefIdeal.Value.run (F := Ideal) m g)

/-- The exact attention kernel, of finite queries and keys, runs to its end and leaves its argument. -/
theorem mobaIdeal_frame_finite : Cert.quiescent_MobaIdeal_pre_finite_scores (hMobaIdeal := Cert.MobaIdeal.Gen.facts)
    (hPre_finite_scores := Cert.Pre_finite_scores.Gen.facts) := fun m g _ => Cert.MobaIdeal.Gen.frame m g

/-- So does the reference of finite queries and keys. -/
theorem mobaRefIdeal_frame_finite : Cert.quiescent_MobaRefIdeal_pre_finite_scores
    (hMobaRefIdeal := Cert.MobaRefIdeal.Gen.facts) (hPre_finite_scores := Cert.Pre_finite_scores.Gen.facts) :=
  fun m g _ => mobaRefIdeal_frame m g trivial

/-- The printed projection kernel runs to its end and leaves its arguments. -/
theorem inProj_frame : Cert.quiescent_InProj (hInProj := Cert.InProj.Gen.facts) :=
  fun m g _ => Cert.InProj.Gen.frame m g

/-- So does the exact one. -/
theorem inProjIdeal_frame : Cert.quiescent_InProjIdeal (hInProjIdeal := Cert.InProjIdeal.Gen.facts) :=
  fun m g _ => Cert.InProjIdeal.Gen.frame m g

/-- So does the projection's reference. -/
theorem inProjRefIdeal_frame : Cert.quiescent_InProjRefIdeal (hInProjRefIdeal := Cert.InProjRefIdeal.Gen.facts) := fun m g _ =>
  (θ_run Cert.InProjRefIdeal.defs _ _).mono (fun r h => ⟨fun c => (h c).2, sem_eq_zero_of_no_sems (by decide) r.2⟩)
    (Cert.InProjRefIdeal.Value.run (F := Ideal) m g)

/-- The printed merge kernel runs to its end and leaves its arguments. -/
theorem merge_frame : Cert.quiescent_Merge (hMerge := Cert.Merge.Gen.facts) :=
  fun m g _ => Cert.Merge.Gen.frame m g

/-- So does the exact one. -/
theorem mergeIdeal_frame : Cert.quiescent_MergeIdeal (hMergeIdeal := Cert.MergeIdeal.Gen.facts) :=
  fun m g _ => Cert.MergeIdeal.Gen.frame m g

/-- So does the reference of the merge. -/
theorem mergeRefIdeal_frame : Cert.quiescent_MergeRefIdeal (hMergeRefIdeal := Cert.MergeRefIdeal.Gen.facts) := fun m g _ =>
  (θ_run Cert.MergeRefIdeal.defs _ _).mono (fun r h => ⟨fun c => (h c).2, sem_eq_zero_of_no_sems (by decide) r.2⟩)
    (Cert.MergeRefIdeal.Value.run (F := Ideal) m g)

/-- The printed output projection kernel runs to its end and leaves its arguments. -/
theorem outProj_frame : Cert.quiescent_OutProj (hOutProj := Cert.OutProj.Gen.facts) :=
  fun m g _ => Cert.OutProj.Gen.frame m g

/-- So does the exact one. -/
theorem outProjIdeal_frame : Cert.quiescent_OutProjIdeal (hOutProjIdeal := Cert.OutProjIdeal.Gen.facts) :=
  fun m g _ => Cert.OutProjIdeal.Gen.frame m g

/-- So does the reference of the output projection. -/
theorem outProjRefIdeal_frame : Cert.quiescent_OutProjRefIdeal (hOutProjRefIdeal := Cert.OutProjRefIdeal.Gen.facts) := fun m g _ =>
  (θ_run Cert.OutProjRefIdeal.defs _ _).mono (fun r h => ⟨fun c => (h c).2, sem_eq_zero_of_no_sems (by decide) r.2⟩)
    (Cert.OutProjRefIdeal.Value.run (F := Ideal) m g)

/-- The printed feed-forward query kernel runs to its end and leaves its arguments. -/
theorem peerQuery_frame : Cert.quiescent_PeerQuery (hPeerQuery := Cert.PeerQuery.Gen.facts) :=
  fun m g _ => Cert.PeerQuery.Gen.frame m g

/-- So does the exact one. -/
theorem peerQueryIdeal_frame : Cert.quiescent_PeerQueryIdeal (hPeerQueryIdeal := Cert.PeerQueryIdeal.Gen.facts) :=
  fun m g _ => Cert.PeerQueryIdeal.Gen.frame m g

/-- So does the reference of the feed-forward query. -/
theorem peerQueryRefIdeal_frame : Cert.quiescent_PeerQueryRefIdeal (hPeerQueryRefIdeal := Cert.PeerQueryRefIdeal.Gen.facts) := fun m g _ =>
  (θ_run Cert.PeerQueryRefIdeal.defs _ _).mono (fun r h => ⟨fun c => (h c).2, sem_eq_zero_of_no_sems (by decide) r.2⟩)
    (Cert.PeerQueryRefIdeal.Value.run (F := Ideal) m g)

/-- The printed normalisation kernel runs to its end and leaves its arguments. -/
theorem norm_frame : Cert.quiescent_Norm (hNorm := Cert.Norm.Gen.facts) :=
  fun m g _ => Cert.Norm.Gen.frame m g

/-- So does the exact one. -/
theorem normIdeal_frame : Cert.quiescent_NormIdeal (hNormIdeal := Cert.NormIdeal.Gen.facts) :=
  fun m g _ => Cert.NormIdeal.Gen.frame m g

/-- So does the reference of the normalisation. -/
theorem normRefIdeal_frame : Cert.quiescent_NormRefIdeal (hNormRefIdeal := Cert.NormRefIdeal.Gen.facts) := fun m g _ =>
  (θ_run Cert.NormRefIdeal.defs _ _).mono (fun r h => ⟨fun c => (h c).2, sem_eq_zero_of_no_sems (by decide) r.2⟩)
    (Cert.NormRefIdeal.Value.run (F := Ideal) m g)

/-- The printed last normalisation kernel runs to its end and leaves its arguments. -/
theorem lastNorm_frame : Cert.quiescent_LastNorm (hLastNorm := Cert.LastNorm.Gen.facts) :=
  fun m g _ => Cert.LastNorm.Gen.frame m g

/-- So does the exact one. -/
theorem lastNormIdeal_frame : Cert.quiescent_LastNormIdeal (hLastNormIdeal := Cert.LastNormIdeal.Gen.facts) :=
  fun m g _ => Cert.LastNormIdeal.Gen.frame m g

/-- So does the reference of the last normalisation. -/
theorem lastNormRefIdeal_frame : Cert.quiescent_LastNormRefIdeal (hLastNormRefIdeal := Cert.LastNormRefIdeal.Gen.facts) := fun m g _ =>
  (θ_run Cert.LastNormRefIdeal.defs _ _).mono (fun r h => ⟨fun c => (h c).2, sem_eq_zero_of_no_sems (by decide) r.2⟩)
    (Cert.LastNormRefIdeal.Value.run (F := Ideal) m g)

/-- The printed convolution kernel runs to its end and leaves its arguments. -/
theorem conv_frame : Cert.quiescent_Conv (hConv := Cert.Conv.Gen.facts) :=
  fun m g _ => Cert.Conv.Gen.frame m g

/-- So does the exact one. -/
theorem convIdeal_frame : Cert.quiescent_ConvIdeal (hConvIdeal := Cert.ConvIdeal.Gen.facts) :=
  fun m g _ => Cert.ConvIdeal.Gen.frame m g

/-- So does the reference of the convolution. -/
theorem convRefIdeal_frame : Cert.quiescent_ConvRefIdeal (hConvRefIdeal := Cert.ConvRefIdeal.Gen.facts) := fun m g _ =>
  (θ_run Cert.ConvRefIdeal.defs _ _).mono (fun r h => ⟨fun c => (h c).2, sem_eq_zero_of_no_sems (by decide) r.2⟩)
    (Cert.ConvRefIdeal.Value.run (F := Ideal) m g)

/-- The printed kernel of the experts' sum runs to its end and leaves its arguments. -/
theorem peerMix_frame : Cert.quiescent_PeerMix (hPeerMix := Cert.PeerMix.Gen.facts) :=
  fun m g _ => Cert.PeerMix.Gen.frame m g

/-- So does the exact one. -/
theorem peerMixIdeal_frame : Cert.quiescent_PeerMixIdeal (hPeerMixIdeal := Cert.PeerMixIdeal.Gen.facts) :=
  fun m g _ => Cert.PeerMixIdeal.Gen.frame m g

/-- So does the reference of the experts' sum. -/
theorem peerMixRefIdeal_frame : Cert.quiescent_PeerMixRefIdeal (hPeerMixRefIdeal := Cert.PeerMixRefIdeal.Gen.facts) := fun m g _ =>
  (θ_run Cert.PeerMixRefIdeal.defs _ _).mono (fun r h => ⟨fun c => (h c).2, sem_eq_zero_of_no_sems (by decide) r.2⟩)
    (Cert.PeerMixRefIdeal.Value.run (F := Ideal) m g)

/-- Every claim of the certificate. -/
theorem claim : Cert.Claim :=
  ⟨Cert.Moba.Gen.facts, Cert.MobaIdeal.Gen.facts, Cert.MobaRefIdeal.Gen.facts, Cert.InProj.Gen.facts,
    Cert.InProjIdeal.Gen.facts, Cert.InProjRefIdeal.Gen.facts, Cert.Merge.Gen.facts, Cert.MergeIdeal.Gen.facts,
    Cert.MergeRefIdeal.Gen.facts, Cert.OutProj.Gen.facts, Cert.OutProjIdeal.Gen.facts,
    Cert.OutProjRefIdeal.Gen.facts, Cert.PeerQuery.Gen.facts, Cert.PeerQueryIdeal.Gen.facts,
    Cert.PeerQueryRefIdeal.Gen.facts, Cert.Norm.Gen.facts, Cert.NormIdeal.Gen.facts,
    Cert.NormRefIdeal.Gen.facts, Cert.LastNorm.Gen.facts, Cert.LastNormIdeal.Gen.facts,
    Cert.LastNormRefIdeal.Gen.facts, Cert.Conv.Gen.facts, Cert.ConvIdeal.Gen.facts, Cert.ConvRefIdeal.Gen.facts,
    Cert.PeerMix.Gen.facts, Cert.PeerMixIdeal.Gen.facts, Cert.PeerMixRefIdeal.Gen.facts,
    Cert.Pre_finite_scores.Gen.facts,
    moba_frame, mobaIdeal_frame, mobaIdeal_frame_finite, mobaRefIdeal_frame, mobaRefIdeal_frame_finite,
    inProj_frame, inProjIdeal_frame, inProjRefIdeal_frame, merge_frame, mergeIdeal_frame, mergeRefIdeal_frame,
    outProj_frame, outProjIdeal_frame, outProjRefIdeal_frame, peerQuery_frame, peerQueryIdeal_frame,
    peerQueryRefIdeal_frame, norm_frame, normIdeal_frame, normRefIdeal_frame, lastNorm_frame,
    lastNormIdeal_frame, lastNormRefIdeal_frame, conv_frame, convIdeal_frame, convRefIdeal_frame, peerMix_frame,
    peerMixIdeal_frame, peerMixRefIdeal_frame, trivial,
    attention, trivial, projection, trivial, merge, trivial, outProjection, trivial, peerQueries, trivial, norm,
    trivial, lastNorm, trivial, convolution, trivial, peer_mix⟩

end Cert.Proof

end
